-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_d" .f32 0x39124925#32 ((1 / 7168 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v12) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S6x1024x18432 : Shape := ⟨3, ![6, 1024, 18432]⟩
abbrev S6x1024x7168 : Shape := ⟨3, ![6, 1024, 7168]⟩
abbrev S18432x7168 : Shape := ⟨2, ![18432, 7168]⟩
abbrev S7168 : Shape := ⟨1, ![7168]⟩
abbrev S_ : Shape := ⟨0, ![]⟩

class Facts : Prop where
  bitsLt_bf16_f32 : FTy.bits .bf16 < FTy.bits .f32
  bcast_S_S6x1024x18432 : S_.BroadcastsInDim S6x1024x18432 (![] : Fin 0 → Fin S6x1024x18432.rank)
  bcast_S_S7168 : S_.BroadcastsInDim S7168 (![] : Fin 0 → Fin S7168.rank)

variable [Facts]

def fn {F : FTy → Type} [FloatOps F] (main_arg0 : FVec F S6x1024x18432 .bf16) (main_arg1 : FVec F S6x1024x7168 .bf16) (main_arg2 : FVec F S18432x7168 .fp8e4m3) (main_arg3 : FVec F S7168 .f32) (main_arg4 : FVec F S7168 .f32) (main_arg5 : FVec F S7168 .f32) : IVec S6x1024x18432 1 × IVec S7168 1 :=
  let main_v0 : FVec F S6x1024x18432 .f32 := (extf .f32 · bitsLt_bf16_f32) main_arg0
  let main_v1 : FVec F S6x1024x18432 .f32 := Host.absf main_v0
  let main_cst : FVec F S_ .f32 := constant S_ .f32 0x7F7F0000#32
  let main_v2 : FVec F S6x1024x18432 .f32 := broadcastInDim S6x1024x18432 ![] bcast_S_S6x1024x18432 main_cst
  let main_v3 : IVec S6x1024x18432 1 := cmpf .ole main_v1 main_v2
  let main_v4 : FVec F S7168 .f32 := Host.absf main_arg5
  let main_cst_0 : FVec F S_ .f32 := constant S_ .f32 0x7F7FFFFF#32
  let main_v5 : FVec F S7168 .f32 := broadcastInDim S7168 ![] bcast_S_S7168 main_cst_0
  let main_v6 : IVec S7168 1 := cmpf .ole main_v4 main_v5
  (main_v3, main_v6)
-- ==== Kernel.lean ====
abbrev S6x1024x18432 : Shape := ⟨3, ![6, 1024, 18432]⟩
abbrev S6x1024x7168 : Shape := ⟨3, ![6, 1024, 7168]⟩
abbrev S18432x7168 : Shape := ⟨2, ![18432, 7168]⟩
abbrev S7168 : Shape := ⟨1, ![7168]⟩
abbrev S6144x18432 : Shape := ⟨2, ![6144, 18432]⟩
abbrev S6144x7168 : Shape := ⟨2, ![6144, 7168]⟩
abbrev S6144x1 : Shape := ⟨2, ![6144, 1]⟩
abbrev S64x18432 : Shape := ⟨2, ![64, 18432]⟩
abbrev S64x1 : Shape := ⟨2, ![64, 1]⟩
abbrev S64 : Shape := ⟨1, ![64]⟩
abbrev S64x256 : Shape := ⟨2, ![64, 256]⟩
abbrev S1x7168 : Shape := ⟨2, ![1, 7168]⟩
abbrev S512x18432 : Shape := ⟨2, ![512, 18432]⟩
abbrev S18432x512 : Shape := ⟨2, ![18432, 512]⟩
abbrev S512x1 : Shape := ⟨2, ![512, 1]⟩
abbrev S1x512 : Shape := ⟨2, ![1, 512]⟩
abbrev S512x512 : Shape := ⟨2, ![512, 512]⟩
abbrev S6144x56 : Shape := ⟨2, ![6144, 56]⟩
abbrev S128x7168 : Shape := ⟨2, ![128, 7168]⟩
abbrev S128x56 : Shape := ⟨2, ![128, 56]⟩
abbrev S128 : Shape := ⟨1, ![128]⟩
abbrev S128x1 : Shape := ⟨2, ![128, 1]⟩
abbrev S128x128 : Shape := ⟨2, ![128, 128]⟩
abbrev S128x256 : Shape := ⟨2, ![128, 256]⟩
abbrev S6x1024x1 : Shape := ⟨3, ![6, 1024, 1]⟩
abbrev S6x1024x56 : Shape := ⟨3, ![6, 1024, 56]⟩

abbrev nBuf : Space → Nat
  | .hbm => 22
  | .vmem => 28
  | .smem => 0
  | _ => 0

abbrev bufTy : (tb : Table) → Fin (tcTables nBuf tb) → BufTy
  | .hbm, ⟨0, _⟩ => ⟨S6x1024x18432, .bf16⟩
  | .hbm, ⟨1, _⟩ => ⟨S6x1024x7168, .bf16⟩
  | .hbm, ⟨2, _⟩ => ⟨S18432x7168, .fp8e4m3⟩
  | .hbm, ⟨3, _⟩ => ⟨S7168, .f32⟩
  | .hbm, ⟨4, _⟩ => ⟨S7168, .f32⟩
  | .hbm, ⟨5, _⟩ => ⟨S7168, .f32⟩
  | .hbm, ⟨6, _⟩ => ⟨S6144x18432, .bf16⟩
  | .hbm, ⟨7, _⟩ => ⟨S6144x7168, .bf16⟩
  | .hbm, ⟨8, _⟩ => ⟨S6144x18432, .fp8e4m3⟩
  | .hbm, ⟨9, _⟩ => ⟨S6144x1, .f32⟩
  | .hbm, ⟨10, _⟩ => ⟨S1x7168, .f32⟩
  | .hbm, ⟨11, _⟩ => ⟨S6144x7168, .f32⟩
  | .hbm, ⟨12, _⟩ => ⟨S1x7168, .f32⟩
  | .hbm, ⟨13, _⟩ => ⟨S1x7168, .f32⟩
  | .hbm, ⟨14, _⟩ => ⟨S6144x7168, .bf16⟩
  | .hbm, ⟨15, _⟩ => ⟨S6144x7168, .fp8e4m3⟩
  | .hbm, ⟨16, _⟩ => ⟨S6144x56, .f32⟩
  | .hbm, ⟨17, _⟩ => ⟨S6x1024x7168, .bf16⟩
  | .hbm, ⟨18, _⟩ => ⟨S6x1024x18432, .fp8e4m3⟩
  | .hbm, ⟨19, _⟩ => ⟨S6x1024x1, .f32⟩
  | .hbm, ⟨20, _⟩ => ⟨S6x1024x7168, .fp8e4m3⟩
  | .hbm, ⟨21, _⟩ => ⟨S6x1024x56, .f32⟩
  | .local _ .vmem, ⟨0, _⟩ => ⟨S64x18432, .bf16⟩
  | .local _ .vmem, ⟨1, _⟩ => ⟨S64x18432, .bf16⟩
  | .local _ .vmem, ⟨2, _⟩ => ⟨S64x18432, .fp8e4m3⟩
  | .local _ .vmem, ⟨3, _⟩ => ⟨S64x18432, .fp8e4m3⟩
  | .local _ .vmem, ⟨4, _⟩ => ⟨S64x1, .f32⟩
  | .local _ .vmem, ⟨5, _⟩ => ⟨S64x1, .f32⟩
  | .local _ .vmem, ⟨6, _⟩ => ⟨S512x18432, .fp8e4m3⟩
  | .local _ .vmem, ⟨7, _⟩ => ⟨S512x18432, .fp8e4m3⟩
  | .local _ .vmem, ⟨8, _⟩ => ⟨S18432x512, .fp8e4m3⟩
  | .local _ .vmem, ⟨9, _⟩ => ⟨S18432x512, .fp8e4m3⟩
  | .local _ .vmem, ⟨10, _⟩ => ⟨S512x1, .f32⟩
  | .local _ .vmem, ⟨11, _⟩ => ⟨S512x1, .f32⟩
  | .local _ .vmem, ⟨12, _⟩ => ⟨S1x512, .f32⟩
  | .local _ .vmem, ⟨13, _⟩ => ⟨S1x512, .f32⟩
  | .local _ .vmem, ⟨14, _⟩ => ⟨S512x512, .f32⟩
  | .local _ .vmem, ⟨15, _⟩ => ⟨S512x512, .f32⟩
  | .local _ .vmem, ⟨16, _⟩ => ⟨S128x7168, .f32⟩
  | .local _ .vmem, ⟨17, _⟩ => ⟨S128x7168, .f32⟩
  | .local _ .vmem, ⟨18, _⟩ => ⟨S128x7168, .bf16⟩
  | .local _ .vmem, ⟨19, _⟩ => ⟨S128x7168, .bf16⟩
  | .local _ .vmem, ⟨20, _⟩ => ⟨S1x7168, .f32⟩
  | .local _ .vmem, ⟨21, _⟩ => ⟨S1x7168, .f32⟩
  | .local _ .vmem, ⟨22, _⟩ => ⟨S128x7168, .bf16⟩
  | .local _ .vmem, ⟨23, _⟩ => ⟨S128x7168, .bf16⟩
  | .local _ .vmem, ⟨24, _⟩ => ⟨S128x7168, .fp8e4m3⟩
  | .local _ .vmem, ⟨25, _⟩ => ⟨S128x7168, .fp8e4m3⟩
  | .local _ .vmem, ⟨26, _⟩ => ⟨S128x56, .f32⟩
  | .local _ .vmem, ⟨27, _⟩ => ⟨S128x56, .f32⟩
  | _, _ => ⟨S6x1024x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem5_1 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x18432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x18432 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![12, 14], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x18432 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S18432x512 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨1, ![48], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x7168 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x7168 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x7168 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x7168 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S128x7168 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S128x7168 .fp8e4m3 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S128x56 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]
-- ==== KernelIdeal.lean ====
variable {F : FTy → Type} [FloatOps F] [Named F]
def κ : String → Option EReal := fun
  | "inv_d" => some ((1 / 7168 : ℝ) : EReal)
  | _ => none
-- ==== ReferenceIdeal.lean ====
abbrev S6x1024x18432 : Shape := ⟨3, ![6, 1024, 18432]⟩
abbrev S6x1024x7168 : Shape := ⟨3, ![6, 1024, 7168]⟩
abbrev S18432x7168 : Shape := ⟨2, ![18432, 7168]⟩
abbrev S7168 : Shape := ⟨1, ![7168]⟩
abbrev S6x1024x1 : Shape := ⟨3, ![6, 1024, 1]⟩
abbrev S6x1024x56 : Shape := ⟨3, ![6, 1024, 56]⟩
abbrev S6x1024 : Shape := ⟨2, ![6, 1024]⟩
abbrev S1x1x7168 : Shape := ⟨3, ![1, 1, 7168]⟩
abbrev S6x1024x56x128 : Shape := ⟨4, ![6, 1024, 56, 128]⟩
abbrev S6x1024x56x1 : Shape := ⟨4, ![6, 1024, 56, 1]⟩

abbrev nBuf : Space → Nat
  | .hbm => 11
  | .vmem => 11
  | .smem => 0
  | _ => 0

abbrev bufTy : (tb : Table) → Fin (tcTables nBuf tb) → BufTy
  | .hbm, ⟨0, _⟩ => ⟨S6x1024x18432, .bf16⟩
  | .hbm, ⟨1, _⟩ => ⟨S6x1024x7168, .bf16⟩
  | .hbm, ⟨2, _⟩ => ⟨S18432x7168, .fp8e4m3⟩
  | .hbm, ⟨3, _⟩ => ⟨S7168, .f32⟩
  | .hbm, ⟨4, _⟩ => ⟨S7168, .f32⟩
  | .hbm, ⟨5, _⟩ => ⟨S7168, .f32⟩
  | .hbm, ⟨6, _⟩ => ⟨S6x1024x7168, .bf16⟩
  | .hbm, ⟨7, _⟩ => ⟨S6x1024x18432, .fp8e4m3⟩
  | .hbm, ⟨8, _⟩ => ⟨S6x1024x1, .f32⟩
  | .hbm, ⟨9, _⟩ => ⟨S6x1024x7168, .fp8e4m3⟩
  | .hbm, ⟨10, _⟩ => ⟨S6x1024x56, .f32⟩
  | .local _ .vmem, ⟨0, _⟩ => ⟨S6x1024x18432, .bf16⟩
  | .local _ .vmem, ⟨1, _⟩ => ⟨S6x1024x7168, .bf16⟩
  | .local _ .vmem, ⟨2, _⟩ => ⟨S18432x7168, .fp8e4m3⟩
  | .local _ .vmem, ⟨3, _⟩ => ⟨S7168, .f32⟩
  | .local _ .vmem, ⟨4, _⟩ => ⟨S7168, .f32⟩
  | .local _ .vmem, ⟨5, _⟩ => ⟨S7168, .f32⟩
  | .local _ .vmem, ⟨6, _⟩ => ⟨S6x1024x7168, .bf16⟩
  | .local _ .vmem, ⟨7, _⟩ => ⟨S6x1024x18432, .fp8e4m3⟩
  | .local _ .vmem, ⟨8, _⟩ => ⟨S6x1024x1, .f32⟩
  | .local _ .vmem, ⟨9, _⟩ => ⟨S6x1024x7168, .fp8e4m3⟩
  | .local _ .vmem, ⟨10, _⟩ => ⟨S6x1024x56, .f32⟩
  | _, _ => ⟨S6x1024x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S6x1024x18432 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x1024x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18432x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x1024x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x1024x18432 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x1024x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x1024x7168 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x1024x56 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KerWhole.lean ====
module

public import proofs.«01_k».proof.Proof.Gen.KernelIdeal.Frame

/-!
  The kernel's run: what every final state holds, its results as well as its arguments.
-/

@[expose] public section

noncomputable section

namespace Cert.Proof.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- THE RUN: from any memory with zero counters every weakly fair execution terminates, nothing faulting, and every final
    state has the five results at the values followed through the three calls, and the arguments as launched. It is the
    frame's launch with the results read off beside the arguments. -/
theorem run : θ_run defs (onTc (τ := τ) (main (F := Ideal))) ⟨m, fun _ => 0, ρ⟩ (fun r => ∀ c : Dev nD,
      r.2.mem ((c.tc : Thread nD τ).loc main_v8) = W7 m ρ c (Proc.devRef .tc main_v8)
      ∧ r.2.mem ((c.tc : Thread nD τ).loc main_v9) = W7 m ρ c (Proc.devRef .tc main_v9)
      ∧ r.2.mem ((c.tc : Thread nD τ).loc main_v10) = W7 m ρ c (Proc.devRef .tc main_v10)
      ∧ r.2.mem ((c.tc : Thread nD τ).loc main_v11) = W7 m ρ c (Proc.devRef .tc main_v11)
      ∧ r.2.mem ((c.tc : Thread nD τ).loc main_v12) = W7 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => fun c =>
      ⟨h c _ (mem_uc main_v8 (by decide)),
       h c _ (mem_uc main_v9 (by decide)),
       h c _ (mem_uc main_v10 (by decide)),
       h c _ (mem_uc main_v11 (by decide)),
       h c _ (mem_uc main_v12 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.Proof.Ker

end
-- ==== Proof.Ladder.lean ====
module

public import Idealize.ShloMosaic.PureOps.Ideal
public import Idealize.ShloMosaic.PureOps.Reduce
public import Idealize.ShloMosaic.PureOps
public import Mathlib.Analysis.SpecialFunctions.Pow.Real

@[expose] public section

noncomputable section

namespace Cert.Proof

open Idealize.ShloMosaic

/-- The word whose exponent field is `k` and whose other bits are zero, as the kernel shifts it together. -/
def rungWord (k : ℕ) : BitVec 32 := IntOp.shli ArithUnit.vector (BitVec.ofNat 32 k) 23#32

/-- Its unsigned value. -/
theorem rungWord_toNat (k : ℕ) (hk : k < 256) : (rungWord k).toNat = k * 2 ^ 23 := by
  unfold rungWord IntOp.shli
  rw [if_pos (by decide), BitVec.shiftLeft_eq', BitVec.toNat_shiftLeft, BitVec.toNat_ofNat, Nat.shiftLeft_eq,
    show (23#32 : BitVec 32).toNat = 23 from rfl]
  omega

/-- Its signed value. -/
theorem rungWord_toInt (k : ℕ) (hk : k < 256) : (rungWord k).toInt = (k : ℤ) * 2 ^ 23 := by
  rw [BitVec.toInt_eq_toNat_of_lt] <;> rw [rungWord_toNat k hk]
  · push_cast; ring
  · omega

/-- A word with a zero mantissa and exponent field `k`, neither 0 nor 255, denotes `2 ^ (k - 127)`. -/
theorem ofBits_exponent (b : BitVec 32) (k : ℕ) (h1 : 1 ≤ k) (h2 : k ≤ 254) (hb : b.toNat = k * 2 ^ 23) :
    (Ideal.ofBits .f32 b : EReal) = (((2 : ℝ) ^ ((k : ℤ) - 127) : ℝ) : EReal) := by
  have hex : (b.extractLsb' 23 8).toNat = k := by
    rw [BitVec.extractLsb'_toNat, hb, Nat.shiftRight_eq_div_pow]; omega
  have hfr : (b.extractLsb' 0 23).toNat = 0 := by
    rw [BitVec.extractLsb'_toNat, hb, Nat.shiftRight_eq_div_pow]; omega
  have hneg : (b.extractLsb' (8 + 23) 1 == 1#1) = false := by
    rw [beq_eq_false_iff_ne]
    intro h
    have := congrArg BitVec.toNat h
    rw [BitVec.extractLsb'_toNat, hb, Nat.shiftRight_eq_div_pow] at this
    simp at this
    omega
  unfold Ideal.ofBits Ideal.ieee
  simp only [hex, hfr, hneg]
  rw [if_neg (by norm_num; omega), if_neg (by omega)]
  congr 1
  simp only [Bool.false_eq_true, if_false, one_mul, Nat.add_zero]
  rw [show (((2 ^ 23 : ℕ)) : ℝ) = (2 : ℝ) ^ (23 : ℤ) by norm_num, ← zpow_add₀ (by norm_num)]
  congr 1
  norm_num

/-- The word 0 denotes 0. -/
theorem ofBits_zero : (Ideal.ofBits .f32 0#32 : EReal) = 0 := by
  simp [Ideal.ofBits, Ideal.ieee]

/-- The word with exponent field 255 denotes the positive infinity. -/
theorem ofBits_top (b : BitVec 32) (hb : b.toNat = 255 * 2 ^ 23) : (Ideal.ofBits .f32 b : EReal) = ⊤ := by
  have : b = 0x7F800000#32 := by apply BitVec.eq_of_toNat_eq; rw [hb]; rfl
  subst this
  simp [Ideal.ofBits, Ideal.ieee]

/-- The exponent field that the kernel finds for `t`: the greatest of the 256 words whose float is at most `t`. -/
def field (t : EReal) : BitVec 32 :=
  Finset.fold IntOp.maxsi 2147483648#32
    (fun x : Fin 256 => if t < (Ideal.ofBits .f32 (IntOp.shli ArithUnit.vector (BitVec.ofNat 32 x.val) 23#32) : EReal)
      then 0#32 else IntOp.shli ArithUnit.vector (BitVec.ofNat 32 x.val) 23#32) Finset.univ

/-- The field as a maximum over the words whose float is at most `t`. -/
theorem field_def (t : EReal) : field t = Finset.fold IntOp.maxsi 2147483648#32
    (fun x : Fin 256 => if (Ideal.ofBits .f32 (rungWord x.val) : EReal) ≤ t then rungWord x.val else 0#32) Finset.univ := by
  unfold field
  congr 1
  funext x
  exact (ite_congr (propext not_le.symm) (fun _ => rfl) fun _ => rfl).trans (ite_not ..)

/-- A signed maximum is one of its two arguments. -/
theorem maxsi_cases (x y : BitVec 32) : IntOp.maxsi x y = x ∨ IntOp.maxsi x y = y := by
  unfold IntOp.maxsi; split <;> simp

/-- A signed maximum's value is the greater one. -/
theorem maxsi_toInt (x y : BitVec 32) : (IntOp.maxsi x y).toInt = max x.toInt y.toInt := by
  unfold IntOp.maxsi
  split <;> rename_i h <;> simp [BitVec.slt] at h <;> omega

/-- The signed maximum of a family is the least word or a member of it. -/
theorem fold_mem {ι : Type} [DecidableEq ι] (s : Finset ι) (f : ι → BitVec 32) (b : BitVec 32) :
    Finset.fold IntOp.maxsi b f s = b ∨ ∃ i ∈ s, Finset.fold IntOp.maxsi b f s = f i := by
  induction s using Finset.induction_on with
  | empty => simp
  | insert a s ha ih =>
    rw [Finset.fold_insert ha]
    rcases maxsi_cases (f a) (Finset.fold IntOp.maxsi b f s) with h | h
    · exact .inr ⟨a, by simp, h⟩
    · rw [h]
      rcases ih with h' | ⟨i, hi, h'⟩
      · exact .inl h'
      · exact .inr ⟨i, by simp [hi], h'⟩

/-- Every member is at most the signed maximum. -/
theorem le_fold {ι : Type} [DecidableEq ι] (s : Finset ι) (f : ι → BitVec 32) (b : BitVec 32) (i : ι) (hi : i ∈ s) :
    (f i).toInt ≤ (Finset.fold IntOp.maxsi b f s).toInt := by
  induction s using Finset.induction_on with
  | empty => simp at hi
  | insert a s ha ih =>
    rw [Finset.fold_insert ha, maxsi_toInt]
    rcases Finset.mem_insert.mp hi with h | h
    · subst h; exact le_max_left _ _
    · exact (ih h).trans (le_max_right _ _)

/-- Where exactly the words up to `k` have a float at most `t`, the kernel's field is the word `k`. -/
theorem field_eq (t : EReal) (k : ℕ) (hk : k < 256)
    (hle : (Ideal.ofBits .f32 (rungWord k) : EReal) ≤ t)
    (hgt : ∀ j : ℕ, j < 256 → (Ideal.ofBits .f32 (rungWord j) : EReal) ≤ t → j ≤ k) :
    field t = rungWord k := by
  have h1 := le_fold Finset.univ (fun x : Fin 256 => if (Ideal.ofBits .f32 (rungWord x.val) : EReal) ≤ t
      then rungWord x.val else 0#32) 2147483648#32 ⟨k, hk⟩ (Finset.mem_univ _)
  rw [if_pos hle] at h1
  have hk0 := rungWord_toInt k hk
  rcases fold_mem Finset.univ (fun x : Fin 256 => if (Ideal.ofBits .f32 (rungWord x.val) : EReal) ≤ t
      then rungWord x.val else 0#32) 2147483648#32 with h | ⟨i, -, h⟩
  · rw [h, hk0] at h1
    have : (2147483648#32 : BitVec 32).toInt = -2147483648 := by decide
    omega
  · rw [field_def]
    rw [h] at h1 ⊢
    by_cases hi : (Ideal.ofBits .f32 (rungWord i.val) : EReal) ≤ t
    · simp only [if_pos hi] at h1 ⊢
      have := hgt i.val i.isLt hi
      rw [hk0, rungWord_toInt _ i.isLt] at h1
      have : i.val = k := by omega
      rw [this]
    · simp only [if_neg hi] at h1 ⊢
      rw [hk0] at h1
      have h0 : (0#32 : BitVec 32).toInt = 0 := by decide
      have : k = 0 := by omega
      subst this
      rfl

/-- The kernel's scale for the exponent field `e`. -/
def kscale (e : BitVec 32) : EReal :=
  Ideal.ofBits .f32 (Scalar.select (IntOp.cmpi .eq e 0#32) 1065353216#32 (IntOp.addi e 8388608#32))

/-- The kernel's reciprocal scale for the exponent field `e`. -/
def kinv (e : BitVec 32) : EReal :=
  Ideal.ofBits .f32 (Scalar.select (IntOp.cmpi .eq e 0#32) 1065353216#32 (IntOp.subi 2122317824#32 e))

/-- The word of 1 denotes 1. -/
theorem ofBits_one : (Ideal.ofBits .f32 1065353216#32 : EReal) = ((1 : ℝ) : EReal) := by
  rw [ofBits_exponent _ 127 (by norm_num) (by norm_num) (by decide)]; norm_num

/-- At the field 0 both are 1. -/
theorem kscale_zero : kscale 0#32 = ((1 : ℝ) : EReal) := ofBits_one
/-- The inverse scale of a zero exponent field is one. -/
theorem kinv_zero : kinv 0#32 = ((1 : ℝ) : EReal) := ofBits_one

/-- At a field `k` of a normal number the scale is `2 ^ (k - 126)`. -/
theorem kscale_rung (k : ℕ) (h1 : 1 ≤ k) (h2 : k ≤ 252) :
    kscale (rungWord k) = (((2 : ℝ) ^ ((k : ℤ) - 126) : ℝ) : EReal) := by
  have hn := rungWord_toNat k (by omega)
  have hne : rungWord k ≠ 0#32 := fun h => by
    have := congrArg BitVec.toNat h; rw [hn] at this; simp at this; omega
  have : Scalar.select (IntOp.cmpi .eq (rungWord k) 0#32) 1065353216#32 (IntOp.addi (rungWord k) 8388608#32)
      = IntOp.addi (rungWord k) 8388608#32 := by
    unfold Scalar.select IntOp.cmpi; rw [beq_eq_false_iff_ne.mpr hne]; rfl
  unfold kscale
  rw [this, ofBits_exponent _ (k + 1) (by omega) (by omega)]
  · rw [show ((k + 1 : ℕ) : ℤ) - 127 = (k : ℤ) - 126 by push_cast; ring]
  · unfold IntOp.addi; rw [BitVec.toNat_add, hn, show (8388608#32 : BitVec 32).toNat = 8388608 from rfl]; omega

/-- At a field `k` of a normal number the reciprocal scale is `2 ^ (126 - k)`. -/
theorem kinv_rung (k : ℕ) (h1 : 1 ≤ k) (h2 : k ≤ 252) :
    kinv (rungWord k) = (((2 : ℝ) ^ (126 - (k : ℤ)) : ℝ) : EReal) := by
  have hn := rungWord_toNat k (by omega)
  have hne : rungWord k ≠ 0#32 := fun h => by
    have := congrArg BitVec.toNat h; rw [hn] at this; simp at this; omega
  have : Scalar.select (IntOp.cmpi .eq (rungWord k) 0#32) 1065353216#32 (IntOp.subi 2122317824#32 (rungWord k))
      = IntOp.subi 2122317824#32 (rungWord k) := by
    unfold Scalar.select IntOp.cmpi; rw [beq_eq_false_iff_ne.mpr hne]; rfl
  unfold kinv
  rw [this, ofBits_exponent _ (253 - k) (by omega) (by omega)]
  · rw [show ((253 - k : ℕ) : ℤ) - 127 = 126 - (k : ℤ) by omega]
  · unfold IntOp.subi; rw [BitVec.toNat_sub, hn, show (2122317824#32 : BitVec 32).toNat = 2122317824 from rfl]; omega

/-! ## The reference's exponent -/

/-- The reference's exponent for `t`: `⌊log t / log 2⌋ + 1`, and 0 below the normal numbers. -/
def rexp (t : EReal) : EReal :=
  if t < (Ideal.ofBits .f32 0x00800000#32 : EReal) then 0
  else Ideal.liftRound Int.floor (Ideal.div (Ideal.log t) ((Real.log 2 : ℝ) : EReal)) + 1

/-- The least normal number. -/
theorem ofBits_tiny : (Ideal.ofBits .f32 0x00800000#32 : EReal) = (((2 : ℝ) ^ (-126 : ℤ) : ℝ) : EReal) := by
  rw [ofBits_exponent _ 1 (by norm_num) (by norm_num) (by decide)]; norm_num

/-- THE TWO EXPONENTS: for `0 ≤ t < 2 ^ 126` the kernel's scales are the reference's powers of two. -/
theorem scales_eq (t : ℝ) (h0 : 0 ≤ t) (h1 : t < (2 : ℝ) ^ (126 : ℤ)) :
    kscale (field t) = Ideal.exp2 (rexp t) ∧ kinv (field t) = Ideal.exp2 (0 - rexp t) := by
  by_cases hs : t < (2 : ℝ) ^ (-126 : ℤ)
  · have hf : field t = rungWord 0 := by
      refine field_eq _ 0 (by norm_num) ?_ fun j hj hle => ?_
      · rw [show rungWord 0 = 0#32 from by decide, ofBits_zero]; exact_mod_cast h0
      · by_contra hj0
        by_cases hj2 : j = 255
        · rw [ofBits_top _ (by rw [rungWord_toNat _ hj, hj2])] at hle
          exact absurd (top_le_iff.mp hle) (EReal.coe_ne_top t)
        rw [ofBits_exponent _ j (by omega) (by omega) (rungWord_toNat _ hj), EReal.coe_le_coe_iff] at hle
        have : (2 : ℝ) ^ (-126 : ℤ) ≤ (2 : ℝ) ^ ((j : ℤ) - 127) := zpow_le_zpow_right₀ (by norm_num) (by omega)
        linarith
    have hr : rexp t = ((0 : ℝ) : EReal) := by
      unfold rexp; rw [ofBits_tiny, if_pos (by exact_mod_cast hs)]; rfl
    rw [hf, hr, show rungWord 0 = 0#32 from by decide, kscale_zero, kinv_zero,
      show (0 : EReal) - ((0 : ℝ) : EReal) = ((0 : ℝ) : EReal) from by simp, Ideal.exp2_coe]
    simp
  · rw [not_lt] at hs
    have hp : 0 < t := lt_of_lt_of_le (by positivity) hs
    have hl2 : 0 < Real.log 2 := Real.log_pos (by norm_num)
    set n : ℤ := ⌊Real.log t / Real.log 2⌋ with hn
    have hn1 : (2 : ℝ) ^ n ≤ t := by
      have h : (n : ℝ) ≤ Real.log t / Real.log 2 := Int.floor_le _
      rw [le_div_iff₀ hl2, ← Real.log_zpow] at h
      exact (Real.log_le_log_iff (by positivity) hp).mp h
    have hn2 : t < (2 : ℝ) ^ (n + 1) := by
      have h : Real.log t / Real.log 2 < ((n + 1 : ℤ) : ℝ) := by push_cast; exact Int.lt_floor_add_one _
      rw [div_lt_iff₀ hl2, ← Real.log_zpow] at h
      exact (Real.log_lt_log_iff hp (by positivity)).mp h
    have hlo : -126 ≤ n := by
      by_contra h
      have : (2 : ℝ) ^ (n + 1) ≤ (2 : ℝ) ^ (-126 : ℤ) := zpow_le_zpow_right₀ (by norm_num) (by omega)
      linarith
    have hhi : n ≤ 125 := by
      by_contra h
      have : (2 : ℝ) ^ (126 : ℤ) ≤ (2 : ℝ) ^ n := zpow_le_zpow_right₀ (by norm_num) (by omega)
      linarith
    obtain ⟨k, hk⟩ : ∃ k : ℕ, (k : ℤ) = n + 127 := ⟨(n + 127).toNat, by omega⟩
    have hf : field t = rungWord k := by
      refine field_eq _ k (by omega) ?_ fun j hj hle => ?_
      · rw [ofBits_exponent _ k (by omega) (by omega) (rungWord_toNat _ (by omega)), EReal.coe_le_coe_iff,
          show (k : ℤ) - 127 = n by omega]
        exact hn1
      · by_contra hjk
        by_cases hj2 : j = 255
        · rw [ofBits_top _ (by rw [rungWord_toNat _ hj, hj2])] at hle
          exact absurd (top_le_iff.mp hle) (EReal.coe_ne_top t)
        rw [ofBits_exponent _ j (by omega) (by omega) (rungWord_toNat _ hj), EReal.coe_le_coe_iff] at hle
        have : (2 : ℝ) ^ (n + 1) ≤ (2 : ℝ) ^ ((j : ℤ) - 127) := zpow_le_zpow_right₀ (by norm_num) (by omega)
        linarith
    have hr : rexp t = (((n : ℝ) + 1 : ℝ) : EReal) := by
      unfold rexp
      rw [ofBits_tiny, if_neg (by rw [not_lt]; exact_mod_cast hs), Ideal.log_coe, if_neg (by linarith),
        Ideal.div_coe hl2.ne', ← EReal.coe_mul, mul_one_div, Ideal.liftRound_coe, ← EReal.coe_one, ← EReal.coe_add]
    rw [hf, hr, kscale_rung k (by omega) (by omega), kinv_rung k (by omega) (by omega),
      show (0 : EReal) - (((n : ℝ) + 1 : ℝ) : EReal) = ((-((n : ℝ) + 1) : ℝ) : EReal) from by
        rw [zero_sub, EReal.coe_neg], Ideal.exp2_coe, Ideal.exp2_coe]
    constructor
    · congr 1
      rw [show (n : ℝ) + 1 = ((n + 1 : ℤ) : ℝ) by push_cast; ring, show (k : ℤ) - 126 = n + 1 by omega]
      exact (Real.rpow_intCast 2 (n + 1)).symm
    · congr 1
      rw [show -((n : ℝ) + 1) = ((-(n + 1) : ℤ) : ℝ) by push_cast; ring, show 126 - (k : ℤ) = -(n + 1) by omega]
      exact (Real.rpow_intCast 2 (-(n + 1))).symm

end Cert.Proof

end
-- ==== Proof.Bound.lean ====
module

public import proofs.«01_k».proof.Proof.Ladder

@[expose] public section

noncomputable section

namespace Cert.Proof

open Idealize.ShloMosaic

/-- The printed 1/448. -/
def c448 : EReal := Ideal.ofBits .f32 991054117#32

/-- The printed 1e-6. -/
def eps : EReal := Ideal.ofBits .f32 897988541#32

/-- The printed 1/448 as a real number. -/
theorem c448_eq : c448 = ((9586981 * (2 : ℝ) ^ (-32 : ℤ) : ℝ) : EReal) := by
  unfold c448; simp [Ideal.ofBits, Ideal.ieee, -EReal.coe_mul]

/-- The constant 1e-6 is a positive real. -/
theorem eps_eq : ∃ e : ℝ, 0 < e ∧ eps = (e : EReal) := by
  refine ⟨8796093 * (2 : ℝ) ^ (-43 : ℤ), by positivity, ?_⟩
  unfold eps; simp [Ideal.ofBits, Ideal.ieee, -EReal.coe_mul]

/-- The words of the negative infinity, in both float types. -/
theorem ofBits_bot_f32 : (Ideal.ofBits .f32 4286578688#32 : EReal) = ⊥ := by simp [Ideal.ofBits, Ideal.ieee]
/-- The word of the negative infinity in bf16. -/
theorem ofBits_bot_bf16 : (Ideal.ofBits .bf16 65408#16 : EReal) = ⊥ := by simp [Ideal.ofBits, Ideal.ieee]

/-- The absolute maximum of a group of values. -/
def amax {n : ℕ} (f : Fin n → EReal) : EReal := Finset.fold max ⊥ (fun l => max (f l) (-f l)) Finset.univ

/-- Where every value of a non-empty group is at most `85 · 2 ^ 128` in absolute value, its absolute maximum over 448 is a
    non-negative real below `2 ^ 126`. -/
theorem amax_real {n : ℕ} (hn : 0 < n) (f : Fin n → EReal)
    (hf : ∀ i, max (f i) (-f i) ≤ ((85 * 2 ^ 128 : ℝ) : EReal)) :
    ∃ t : ℝ, amax f * c448 = (t : EReal) ∧ 0 ≤ t ∧ t < (2 : ℝ) ^ (126 : ℤ) := by
  have h1 : amax f ≤ ((85 * 2 ^ 128 : ℝ) : EReal) :=
    Finset.fold_max_le _ |>.mpr ⟨bot_le, fun i _ => hf i⟩
  have h0 : 0 ≤ amax f := by
    have : max (f ⟨0, hn⟩) (-f ⟨0, hn⟩) ≤ amax f :=
      Finset.le_fold_max _ |>.mpr (.inr ⟨⟨0, hn⟩, Finset.mem_univ _, le_rfl⟩)
    refine le_trans ?_ this
    rcases le_total 0 (f ⟨0, hn⟩) with h | h
    · exact le_max_of_le_left h
    · exact le_max_of_le_right (by simpa using EReal.neg_le_neg_iff.mpr h)
  generalize amax f = a at h0 h1
  induction a with
  | bot => simp at h0
  | top => exact absurd (top_le_iff.mp h1) (EReal.coe_ne_top _)
  | coe a =>
    have h0' : 0 ≤ a := by exact_mod_cast h0
    have h1' : a ≤ 85 * 2 ^ 128 := by exact_mod_cast h1
    refine ⟨a * (9586981 * (2 : ℝ) ^ (-32 : ℤ)), by rw [c448_eq, EReal.coe_mul a], by positivity, ?_⟩
    refine lt_of_le_of_lt (mul_le_mul_of_nonneg_right h1' (by positivity)) (by norm_num)

/-- A product of reals' absolute values bounds their product's. -/
theorem abs_coe_le {r B : ℝ} (h : |r| ≤ B) : max (r : EReal) (-(r : EReal)) ≤ (B : EReal) := by
  rw [← EReal.coe_neg]
  exact max_le (by exact_mod_cast (abs_le.mp h).2) (by exact_mod_cast (neg_le.mp (abs_le.mp h).1))

/-- A sum of reals, read in the extended reals. -/
theorem coe_sum' {ι : Type} [DecidableEq ι] (s : Finset ι) (f : ι → ℝ) :
    ((∑ l ∈ s, f l : ℝ) : EReal) = ∑ l ∈ s, (f l : EReal) := by
  induction s using Finset.induction_on with
  | empty => simp
  | insert a s ha ih => rw [Finset.sum_insert ha, Finset.sum_insert ha, EReal.coe_add, ih]

/-- A square is not negative. -/
theorem sq_nonneg' (x : EReal) : 0 ≤ x * x := by
  induction x with
  | bot => simp
  | top => simp
  | coe r => exact_mod_cast mul_self_nonneg r

/-- The sum of the squares of the row. -/
def sumsq {n : ℕ} (h : Fin n → EReal) : EReal := ∑ l, h l * h l

/-- Where one entry is infinite the sum of squares is the positive infinity. -/
theorem sumsq_top {n : ℕ} (h : Fin n → EReal) (i : Fin n) (hi : h i = ⊥ ∨ h i = ⊤) : sumsq h = ⊤ := by
  have h1 : h i * h i ≤ sumsq h :=
    Finset.single_le_sum (f := fun l => h l * h l) (fun l _ => sq_nonneg' (h l)) (Finset.mem_univ i)
  have h2 : h i * h i = ⊤ := by rcases hi with h | h <;> simp [h]
  rw [h2] at h1
  exact top_le_iff.mp h1

/-- The reciprocal root of a row's mean square plus 1e-6. -/
def rms {n : ℕ} (h : Fin n → EReal) : EReal := Ideal.rsqrt (sumsq h * ((1 / 7168 : ℝ) : EReal) + eps)

/-- THE BOUND: an entry of a row of length 7168 times the reciprocal root of the row's mean square and a factor `1 + g`
    of a finite f32 `g` is at most `85 · 2 ^ 128` in absolute value, infinite entries included (they make the root 0). -/
theorem normed_le (h : Fin 7168 → EReal) (g : EReal) (hg : max g (-g) ≤ ((340282346638528859811704183484516925440 : ℝ) : EReal))
    (i : Fin 7168) :
    max (h i * rms h * (1 + g)) (-(h i * rms h * (1 + g))) ≤ ((85 * 2 ^ 128 : ℝ) : EReal) := by
  by_cases hi : ∃ j, h j = ⊥ ∨ h j = ⊤
  · obtain ⟨j, hj⟩ := hi
    obtain ⟨e, -, he⟩ := eps_eq
    have : rms h = 0 := by
      unfold rms
      rw [sumsq_top h j hj, he, EReal.top_mul_coe_of_pos (by norm_num), EReal.top_add_coe]
      rfl
    rw [this, mul_zero, zero_mul, neg_zero, max_self]
    exact_mod_cast (by positivity : (0 : ℝ) ≤ 85 * 2 ^ 128)
  · have hr : ∀ j, ∃ r : ℝ, h j = (r : EReal) := fun j => by
      have hne : ¬(h j = ⊥ ∨ h j = ⊤) := fun hh => hi ⟨j, hh⟩
      generalize h j = a at hne
      induction a with
      | bot => exact absurd (.inl rfl) hne
      | top => exact absurd (.inr rfl) hne
      | coe r => exact ⟨r, rfl⟩
    choose r hr using hr
    obtain ⟨e, he0, he⟩ := eps_eq
    have hs : sumsq h = ((∑ l, r l * r l : ℝ) : EReal) := by
      unfold sumsq
      rw [coe_sum']
      exact Finset.sum_congr rfl fun l _ => by rw [hr l, EReal.coe_mul]
    set S : ℝ := ∑ l, r l * r l with hS
    have hS0 : 0 ≤ S := Finset.sum_nonneg fun l _ => mul_self_nonneg (r l)
    have hSi : r i * r i ≤ S := Finset.single_le_sum (f := fun l => r l * r l) (fun l _ => mul_self_nonneg (r l)) (Finset.mem_univ i)
    clear_value S
    have hri : r i ^ 2 ≤ S := by rw [pow_two]; exact hSi
    have hi' := hr i
    generalize r i = ri at hri hi'
    clear hSi hS
    set q : ℝ := S * (1 / 7168) + e with hq
    have hq0 : 0 < q := add_pos_of_nonneg_of_pos (mul_nonneg hS0 (by norm_num)) he0
    have hrms : rms h = (((Real.sqrt q)⁻¹ : ℝ) : EReal) := by
      unfold rms
      rw [hs, he, ← EReal.coe_mul, ← EReal.coe_add, Ideal.rsqrt_coe, if_neg (not_lt.mpr hq0.le), if_neg hq0.ne']
    obtain ⟨γ, hγ, hγB⟩ : ∃ γ : ℝ, g = (γ : EReal) ∧ |γ| ≤ 340282346638528859811704183484516925440 := by
      induction g with
      | bot => simp at hg
      | top => simp at hg
      | coe γ =>
        refine ⟨γ, rfl, abs_le.mpr ⟨?_, ?_⟩⟩
        · have := (le_max_right _ _).trans hg
          rw [← EReal.coe_neg, EReal.coe_le_coe_iff] at this
          linarith
        · have := (le_max_left _ _).trans hg
          exact_mod_cast this
    rw [hi', hrms, hγ, ← EReal.coe_one, ← EReal.coe_add, ← EReal.coe_mul, ← EReal.coe_mul]
    apply abs_coe_le
    have ha : |ri * (Real.sqrt q)⁻¹| ≤ 85 := by
      rw [← div_eq_mul_inv, abs_div, abs_of_nonneg (Real.sqrt_nonneg q), div_le_iff₀ (Real.sqrt_pos.mpr hq0)]
      apply abs_le_of_sq_le_sq
      · rw [mul_pow, Real.sq_sqrt hq0.le, hq]
        linarith
      · positivity
    have hb : |1 + γ| ≤ 2 ^ 128 := by
      refine (abs_add_le _ _).trans ?_
      rw [abs_one]
      refine (add_le_add_right hγB 1).trans ?_
      norm_num
    rw [abs_mul]
    exact mul_le_mul ha hb (abs_nonneg _) (by norm_num)

end Cert.Proof

end
-- ==== Proof.Model.lean ====
module

public import proofs.«01_k».proof.Proof.Bound

/-!
  The arithmetic that both programs do, row by row over the extended reals: the scale and the codes of a group of values,
  the scaled product, the normed row. The kernel's own way to its scales is set beside the reference's here.
-/

@[expose] public section

noncomputable section

namespace Cert.Proof

open Idealize.ShloMosaic

/-- A group's absolute maximum over 448. -/
def tOf {n : ℕ} (f : Fin n → EReal) : EReal := amax f * c448

/-- The clipping to ±448. -/
def clip448 (v : EReal) : EReal := min (Ideal.ofBits .f32 1138753536#32) (max (Ideal.ofBits .f32 3286237184#32) v)

/-- A group's scale as the reference writes it. -/
def scaleOf {n : ℕ} (f : Fin n → EReal) : EReal := Ideal.exp2 (rexp (tOf f))

/-- A group's codes as the reference writes them. -/
def codeOf {n : ℕ} (f : Fin n → EReal) (l : Fin n) : EReal := clip448 (f l * Ideal.exp2 (0 - rexp (tOf f)))

/-- A group's scale as the kernel finds it. -/
def kscaleOf {n : ℕ} (f : Fin n → EReal) : EReal := kscale (field (tOf f))

/-- A group's codes as the kernel finds them. -/
def kcodeOf {n : ℕ} (f : Fin n → EReal) (l : Fin n) : EReal := clip448 (f l * kinv (field (tOf f)))

/-- One entry of the projection: the codes' product with a column of weights, times both scales. -/
def yOf {n : ℕ} (q : Fin n → EReal) (w : Fin n → EReal) (s ws : EReal) : EReal := (∑ k, q k * w k) * s * ws

/-- A row over its root mean square, times `1 + g`. -/
def normed {n : ℕ} (h g : Fin n → EReal) (j : Fin n) : EReal := h j * rms h * (1 + g j)

/-- Group `g` of 128 values of a row of 7168. -/
def grp (z : Fin 7168 → EReal) (g : Fin 56) (l : Fin 128) : EReal := z ⟨g.val * 128 + l.val, by omega⟩

/-- A row of the projection. -/
def yRow (q : Fin 18432 → EReal) (s : EReal) (w : Fin 18432 → Fin 7168 → EReal) (ws : Fin 7168 → EReal) (j : Fin 7168) : EReal :=
  yOf q (fun k => w k j) s (ws j)

/-- A row of the residual stream. -/
def hRow (y gp r : Fin 7168 → EReal) (j : Fin 7168) : EReal := normed y gp j + r j

/-- The group of an entry of a row of 7168. -/
def grpOf (j : Fin 7168) : Fin 56 := ⟨j.val / 128, by omega⟩

/-- The place of an entry in its group. -/
def inGrp (j : Fin 7168) : Fin 128 := ⟨j.val % 128, by omega⟩

/-- On a non-empty group of values of moderate size the kernel's scale and codes are the reference's. -/
theorem kscaleOf_eq {n : ℕ} (hn : 0 < n) (f : Fin n → EReal)
    (hf : ∀ i, max (f i) (-f i) ≤ ((85 * 2 ^ 128 : ℝ) : EReal)) : kscaleOf f = scaleOf f ∧ kcodeOf f = codeOf f := by
  obtain ⟨t, ht, h0, h1⟩ := amax_real hn f hf
  obtain ⟨hs, hi⟩ := scales_eq t h0 h1
  unfold kscaleOf scaleOf
  constructor
  · rw [tOf, ht, hs]
  · funext l; unfold kcodeOf codeOf; rw [tOf, ht, hi]

end Cert.Proof

end
-- ==== Proof.KerRead.lean ====
module

public import proofs.«01_k».proof.Proof.Gen.KernelIdeal.Frame
public import proofs.«01_k».proof.Proof.Model
public import Idealize.ShloMosaic.Lib.Pointwise

/-!
  The kernel's operations read at an index: each lemma takes one stretch of its vector operations on arbitrary operands.
-/

@[expose] public section

noncomputable section

namespace Cert.Proof.Ker

open Cert.KernelIdeal Cert.KernelIdeal.Gen Idealize.ShloMosaic

/-- The constant named `inv_d` is 1/7168. -/
theorem inv_d_eq : (Named.named κ "inv_d" (0x39124925#32 : BitVec (FTy.f32).bits) : Ideal .f32) = ((1 / 7168 : ℝ) : EReal) :=
  IdealRules.named_const.ideal_named_scalar _ _ _ _ rfl

/-- A product, entry by entry. -/
theorem mulf_at {s : Shape} {e : FTy} (a b : FVec Ideal s e) (i : s.Idx) : mulf a b i = (a i : EReal) * b i := rfl

/-- The words of the scales, from the exponent fields. -/
theorem kscale_at {S : Shape} (e : IVec S 32) (i : S.Idx) :
    (bitcastToFloat .f32 (select (cmpi .eq e (broadcast S 0#32)) (broadcast S 1065353216#32) (addi e (broadcast S 8388608#32))) :
      FVec Ideal S .f32) i = kscale (e i) := rfl

/-- The words of the inverse scales, from the exponent fields. -/
theorem kinv_at {S : Shape} (e : IVec S 32) (i : S.Idx) :
    (bitcastToFloat .f32 (select (cmpi .eq e (broadcast S 0#32)) (broadcast S 1065353216#32) (subi (broadcast S 2122317824#32) e)) :
      FVec Ideal S .f32) i = kinv (e i) := rfl

/-! ## Rows of 18432, 64 at a time -/

/-- The maximum along a row of 18432. -/
theorem rowMax_at (v : FVec Ideal S64x18432 .bf16) (r : Fin 64) (i : Fin 1) :
    shapeCast S64x1 (multiReduction .maximumf [1] S64 v 0xFF80#16 reduces_S64x18432_S64 (.inr rfl) rfl)
      shapeCasts_S64_S64x1 (ix2 r i)
      = Finset.fold max (Ideal.ofBits .bf16 65408#16) (fun l : Fin 18432 => v (ix2 r l)) Finset.univ := by
  pointwise

/-- A row's absolute maximum over 448. -/
theorem t_at (v : FVec Ideal S64x18432 .bf16) (r : Fin 64) (i : Fin 1) :
    mulf (extf .f32 (shapeCast S64x1 (multiReduction .maximumf [1] S64 (absf v) 0xFF80#16 reduces_S64x18432_S64 (.inr rfl) rfl)
      shapeCasts_S64_S64x1) bitsLt_bf16_f32) (broadcast S64x1 (Scalar.ofBits .f32 0x3B124925#32)) (ix2 r i)
      = tOf fun l : Fin 18432 => v (ix2 r l) := by
  rw [mulf_at, show ∀ a : FVec Ideal S64x1 .bf16, (extf .f32 a bitsLt_bf16_f32 (ix2 r i) : EReal) = a (ix2 r i) from fun _ => rfl,
    rowMax_at]
  unfold tOf amax c448
  rw [← ofBits_bot_bf16]
  rfl

/-- The exponent field of each row's `t`. -/
theorem field_at (t : FVec Ideal S64x1 .f32) (r : Fin 64) (i : Fin 1) :
    shapeCast S64x1 (multiReductionI .maxsi [1] S64
      (select (cmpf .ogt (bitcastToFloat .f32 (shli (iota .tc S64x256 32 [1] iota_S64x256_d1_w32) (broadcast S64x256 23#32)))
        (broadcastTo S64x256 t broadcasts_S64x1_S64x256))
        (broadcast S64x256 0#32) (shli (iota .tc S64x256 32 [1] iota_S64x256_d1_w32) (broadcast S64x256 23#32)))
      2147483648#32 reduces_S64x256_S64 rfl) shapeCasts_S64_S64x1 (ix2 r i) = field (t (ix2 r 0)) := by
  pointwise
  rfl

/-- The codes from the inverse scales. -/
theorem codes_at (v : FVec Ideal S64x18432 .bf16) (u : FVec Ideal S64x1 .f32) (r : Fin 64) (l : Fin 18432) :
    truncf .fp8e4m3 (minimumf (broadcast S64x18432 (Scalar.truncf .bf16 bitsLt_bf16_f32 (Scalar.ofBits .f32 0x43E00000#32)))
      (maximumf (broadcast S64x18432 (Scalar.truncf .bf16 bitsLt_bf16_f32 (Scalar.ofBits .f32 0xC3E00000#32)))
        (mulf v (broadcastTo S64x18432 (truncf .bf16 u bitsLt_bf16_f32)
          broadcasts_S64x1_S64x18432)))) bitsLt_fp8e4m3_bf16 (ix2 r l)
      = clip448 (v (ix2 r l) * u (ix2 r 0)) := by
  pointwise
  rfl

/-! ## The scaled product, 512 rows by 512 columns -/

/-- One entry of the scaled product. -/
theorem prod_at (q : FVec Ideal S512x18432 .fp8e4m3) (w : FVec Ideal S18432x512 .fp8e4m3) (xs : FVec Ideal S512x1 .f32)
    (ws : FVec Ideal S1x512 .f32) (r : Fin 512) (j : Fin 512) :
    k1_pay1 (F := Ideal) q w xs ws (ix2 r j)
      = yOf (fun k : Fin 18432 => q (ix2 r k)) (fun k => w (ix2 k j)) (xs (ix2 r 0)) (ws (ix2 0 j)) := by
  unfold k1_pay1
  pointwise
  rfl

/-! ## The epilogue's rows, 128 at a time -/

/-- The sum of a row's entries. -/
theorem rowSum_at (v : FVec Ideal S128x7168 .f32) (r : Fin 128) (i : Fin 1) :
    shapeCast S128x1 (multiReduction .add [1] S128 v 0x00000000#32 reduces_S128x7168_S128 (.inl rfl) rfl)
      shapeCasts_S128_S128x1 (ix2 r i) = ∑ l : Fin 7168, v (ix2 r l) := by
  pointwise

/-- A row over the root of its mean square. -/
theorem unit_at (y : FVec Ideal S128x7168 .f32) (t : FVec Ideal S128x1 .f32) (r : Fin 128) (j : Fin 7168) :
    mulf y (broadcastTo S128x7168 (rsqrt (addf (mulf t (broadcast S128x1 (Named.named κ "inv_d" (0x39124925#32 : BitVec (FTy.f32).bits) : Ideal .f32)))
        (broadcast S128x1 (Scalar.ofBits .f32 0x358637BD#32)))) broadcasts_S128x1_S128x7168) (ix2 r j)
      = y (ix2 r j) * Ideal.rsqrt (t (ix2 r 0) * ((1 / 7168 : ℝ) : EReal) + eps) := by
  pointwise
  rw [inv_d_eq]
  rfl

/-- A row of weights, `1 + g`. -/
theorem weight_at (g : FVec Ideal S1x7168 .f32) (r : Fin 128) (j : Fin 7168) :
    broadcastTo S128x7168 (addf (broadcast S1x7168 (Scalar.ofBits .f32 0x3F800000#32))
      (shapeCast S1x7168 g shapeCasts_S1x7168_S1x7168)) broadcasts_S1x7168_S128x7168 (ix2 r j) = 1 + g (ix2 0 j) := by
  pointwise

/-- A sum of two rows, the second read at sixteen bits. -/
theorem add_at (y : FVec Ideal S128x7168 .f32) (v : FVec Ideal S128x7168 .bf16) (r : Fin 128) (j : Fin 7168) :
    (truncf .bf16 (addf y (extf .f32 (shapeCast S128x7168 v shapeCasts_S128x7168_S128x7168) bitsLt_bf16_f32)) bitsLt_bf16_f32 :
      FVec Ideal S128x7168 .bf16) (ix2 r j) = (y (ix2 r j) : EReal) + v (ix2 r j) := by
  pointwise

/-- The maximum of a group's row. -/
theorem grpMax_at (v : FVec Ideal S128x128 .f32) (r : Fin 128) (i : Fin 1) :
    shapeCast S128x1 (multiReduction .maximumf [1] S128 v 0xFF800000#32 reduces_S128x128_S128 (.inl rfl) rfl)
      shapeCasts_S128_S128x1 (ix2 r i)
      = Finset.fold max (Ideal.ofBits .f32 4286578688#32) (fun l : Fin 128 => v (ix2 r l)) Finset.univ := by
  pointwise

/-- A group's absolute maximum over 448. -/
theorem tg_at (v : FVec Ideal S128x128 .f32) (r : Fin 128) (i : Fin 1) :
    mulf (shapeCast S128x1 (multiReduction .maximumf [1] S128 (absf v) 0xFF800000#32 reduces_S128x128_S128 (.inl rfl) rfl)
      shapeCasts_S128_S128x1) (broadcast S128x1 (Scalar.ofBits .f32 0x3B124925#32)) (ix2 r i)
      = tOf fun l : Fin 128 => v (ix2 r l) := by
  rw [mulf_at, grpMax_at]
  unfold tOf amax c448
  rw [← ofBits_bot_f32]
  rfl

/-- The exponent field of each group's `t`. -/
theorem gfield_at (t : FVec Ideal S128x1 .f32) (r : Fin 128) (i : Fin 1) :
    shapeCast S128x1 (multiReductionI .maxsi [1] S128
      (select (cmpf .ogt (bitcastToFloat .f32 (shli (iota .tc S128x256 32 [1] iota_S128x256_d1_w32) (broadcast S128x256 23#32)))
        (broadcastTo S128x256 t broadcasts_S128x1_S128x256))
        (broadcast S128x256 0#32) (shli (iota .tc S128x256 32 [1] iota_S128x256_d1_w32) (broadcast S128x256 23#32)))
      2147483648#32 reduces_S128x256_S128 rfl) shapeCasts_S128_S128x1 (ix2 r i) = field (t (ix2 r 0)) := by
  pointwise
  rfl

/-- The group codes from the inverse scales. -/
theorem gcodes_at (v : FVec Ideal S128x128 .f32) (u : FVec Ideal S128x1 .f32) (r : Fin 128) (l : Fin 128) :
    truncf .fp8e4m3 (minimumf (broadcast S128x128 (Scalar.ofBits .f32 0x43E00000#32))
      (maximumf (broadcast S128x128 (Scalar.ofBits .f32 0xC3E00000#32))
        (mulf v (broadcastTo S128x128 u broadcasts_S128x1_S128x128)))) bitsLt_fp8e4m3_f32 (ix2 r l)
      = clip448 (v (ix2 r l) * u (ix2 r 0)) := by
  pointwise
  rfl

/-- One select of the lane that holds group `n`'s scale. -/
theorem lane_at (n : BitVec 32) (u : FVec Ideal S128x1 .f32) (prev : FVec Ideal S128x128 .f32) (r : Fin 128) (l : Fin 128) :
    select (cmpi .eq (iota .tc S128x128 32 [1] iota_S128x128_d1_w32) (broadcast S128x128 n))
      (broadcastTo S128x128 (shapeCast S128x1 u shapeCasts_S128x1_S128x1) broadcasts_S128x1_S128x128) prev (ix2 r l)
      = if BitVec.ofNat 32 l.val = n then u (ix2 r 0) else prev (ix2 r l) := by
  pointwise
  by_cases h : BitVec.ofNat 32 l.val = n
  · simp [Scalar.select, IntOp.cmpi, h]
  · simp [Scalar.select, IntOp.cmpi, beq_false_of_ne h, h]

/-- The first 56 lanes. -/
theorem lanes_at (v : FVec Ideal S128x128 .f32) (r : Fin 128) (g : Fin 56) :
    extractStridedSlice S128x56 ![0, 0] v slices_S128x128_o0_0_S128x56 (ix2 r g) = v (ix2 r ⟨g.val, by omega⟩) := by
  pointwise

end Cert.Proof.Ker

end
-- ==== Proof.KerBlock.lean ====
module

public import proofs.«01_k».proof.Proof.KerRead
public import Idealize.ShloMosaic.Lib.Pipeline.Value

/-!
  What each body of the kernel leaves in a block, at an index, from the blocks it reads: the quantiser's codes and scales,
  the scaled product, the new residual rows.
-/

@[expose] public section

noncomputable section

namespace Cert.Proof.Ker

open Cert.KernelIdeal Cert.KernelIdeal.Gen Idealize.ShloMosaic

/-! ## The quantiser -/

section
variable (x : Vec Ideal S64x18432 .bf16) (r : Fin 64)

/-- The exponent field of a row. -/
theorem k0_field_at (i : Fin 1) : k0_pay2 (F := Ideal) x (ix2 r i) = field (tOf fun l : Fin 18432 => x (ix2 r l)) := by
  unfold k0_pay2 k0_pay1
  rw [field_at, t_at, shapeCast_self]

/-- The scale of a row. -/
theorem k0_scale_at (i : Fin 1) : k0_pay4 (F := Ideal) x (ix2 r i) = kscaleOf fun l : Fin 18432 => x (ix2 r l) := by
  unfold k0_pay4 k0_pay3 kscaleOf
  rw [kscale_at, k0_field_at]

/-- The codes of a row. -/
theorem k0_codes_at (l : Fin 18432) : k0_pay5 (F := Ideal) x (ix2 r l) = kcodeOf (fun l : Fin 18432 => x (ix2 r l)) l := by
  unfold k0_pay5 k0_pay3 kcodeOf
  rw [codes_at, kinv_at, k0_field_at]
  unfold k0_pay1
  rw [shapeCast_self]

/-- The block of codes the quantiser stores. -/
theorem out0_1_at (l : Fin 18432) : out0_1 (F := Ideal) x (ix2 r l) = kcodeOf (fun l : Fin 18432 => x (ix2 r l)) l := by
  unfold out0_1
  rw [View.canon_unit_zero (S := S64x18432) (by decide), View.ld_unit_zero (S := S64x18432) (by decide), k0_codes_at]

/-- The block of scales the quantiser stores. -/
theorem out0_2_at (i : Fin 1) : out0_2 (F := Ideal) x (ix2 r i) = kscaleOf fun l : Fin 18432 => x (ix2 r l) := by
  unfold out0_2
  rw [View.canon_unit_zero (S := S64x1) (by decide), View.ld_unit_zero (S := S64x18432) (by decide), k0_scale_at]

end

/-! ## The projection -/

/-- The block the projection stores. -/
theorem out1_4_at (q : Vec Ideal S512x18432 .fp8e4m3) (w : Vec Ideal S18432x512 .fp8e4m3) (xs : Vec Ideal S512x1 .f32)
    (ws : Vec Ideal S1x512 .f32) (r j : Fin 512) : out1_4 (F := Ideal) q w xs ws (ix2 r j)
      = yOf (fun k : Fin 18432 => q (ix2 r k)) (fun k => w (ix2 k j)) (xs (ix2 r 0)) (ws (ix2 0 j)) := by
  unfold out1_4
  rw [View.canon_unit_zero (S := S512x512) (by decide), View.ld_unit_zero (S := S512x18432) (by decide),
    View.ld_unit_zero (S := S18432x512) (by decide), View.ld_unit_zero (S := S512x1) (by decide),
    View.ld_unit_zero (S := S1x512) (by decide), prod_at]

/-! ## The epilogue's rows -/

section
variable (y : Vec Ideal S128x7168 .f32) (v : Vec Ideal S128x7168 .bf16) (gp gq : Vec Ideal S1x7168 .f32) (r : Fin 128)

/-- The new residual row. -/
theorem k2_h_at (j : Fin 7168) : k2_pay2 (F := Ideal) y gp v (ix2 r j)
    = hRow (fun j => y (ix2 r j)) (fun j => gp (ix2 0 j)) (fun j => v (ix2 r j)) j := by
  unfold k2_pay2 hRow normed rms sumsq
  rw [add_at, mulf_at, unit_at, weight_at, rowSum_at, shapeCast_self]
  rfl

/-- The new residual row over the root of its mean square. -/
theorem k2_unit_at (j : Fin 7168) : k2_pay3 (F := Ideal) y gp v (ix2 r j)
    = k2_pay2 (F := Ideal) y gp v (ix2 r j) * rms fun j : Fin 7168 => (k2_pay2 (F := Ideal) y gp v (ix2 r j) : EReal) := by
  unfold k2_pay3 rms sumsq
  rw [unit_at, rowSum_at]
  rfl

/-- The normed row. -/
theorem k2_z_at (j : Fin 7168) : k2_pay5 (F := Ideal) (k2_pay3 y gp v) (k2_pay4 gq) (ix2 r j)
    = normed (hRow (fun j => y (ix2 r j)) (fun j => gp (ix2 0 j)) (fun j => v (ix2 r j))) (fun j => gq (ix2 0 j)) j := by
  unfold k2_pay5 k2_pay4
  rw [mulf_at, k2_unit_at, weight_at]
  simp only [k2_h_at]
  rfl

/-- The block of residual rows the epilogue stores. -/
theorem out2_4_at (j : Fin 7168) : out2_4 (F := Ideal) y v gp gq (ix2 r j)
    = hRow (fun j => y (ix2 r j)) (fun j => gp (ix2 0 j)) (fun j => v (ix2 r j)) j := by
  unfold out2_4
  rw [View.canon_unit_zero (S := S128x7168) (by decide), View.ld_unit_zero (S := S128x7168) (by decide),
    View.ld_unit_zero (S := S1x7168) (by decide), View.ld_unit_zero (S := S128x7168) (by decide), k2_h_at]

end

end Cert.Proof.Ker

end
-- ==== Proof.KerQuant.lean ====
module

public import proofs.«01_k».proof.Proof.KerBlock

/-!
  What the quantiser leaves in its two result arrays, from the array it reads: every row's codes and scale.
-/

@[expose] public section

noncomputable section

namespace Cert.Proof.Ker

open Cert.KernelIdeal Cert.KernelIdeal.Gen Idealize.ShloMosaic Idealize.ShloMosaic.TcCoe

variable (V : (c : Dev nD) → (b : Ref sig .tc) → Buf (Elt Ideal) ((c : Thread nD τ).loc b)) (c : Dev nD)

/-- Grid point `t` takes block `t` of every window. -/
theorem idx0 : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0) :=
  (by decide +kernel : ∀ t : Fin grid0.N, _)

/-- The number of grid steps of the quantiser. -/
theorem lt0 (t : Fin cfg0.N) : t.val < 96 := t.isLt

/-- The array row that row `r` of block `t` is. -/
def row0 (t : Fin cfg0.N) (r : Fin 64) : Fin 6144 := ⟨t.val * 64 + r.val, by have := lt0 t; omega⟩

/-- Where an entry of a step's block of the x lies in its array, in the quantiser. -/
theorem emb0_0 (t : Fin cfg0.N) (r : Fin 64) (l : Fin 18432) :
    ((cfg0.win 0).blk t).view.emb (ix2 r l : S64x18432.Idx) = (ix2 (row0 t r) l : S6144x18432.Idx) := by
  obtain ⟨⟨e0, e1⟩, -, -⟩ := idx0 t
  funext a; apply Fin.ext
  match a with
  | ⟨0, _⟩ => show win0_0.index t (0 : Fin 2) * 64 + 1 * r.val = t.val * 64 + r.val; omega
  | ⟨1, _⟩ => show win0_0.index t (1 : Fin 2) * 18432 + 1 * l.val = l.val; omega

/-- Where an entry of a step's block of the codes lies in its array, in the quantiser. -/
theorem emb0_1 (t : Fin cfg0.N) (r : Fin 64) (l : Fin 18432) :
    ((cfg0.win 1).blk t).view.emb (ix2 r l : S64x18432.Idx) = (ix2 (row0 t r) l : S6144x18432.Idx) := by
  obtain ⟨-, ⟨e0, e1⟩, -⟩ := idx0 t
  funext a; apply Fin.ext
  match a with
  | ⟨0, _⟩ => show win0_1.index t (0 : Fin 2) * 64 + 1 * r.val = t.val * 64 + r.val; omega
  | ⟨1, _⟩ => show win0_1.index t (1 : Fin 2) * 18432 + 1 * l.val = l.val; omega

/-- Where an entry of a step's block of the scales lies in its array, in the quantiser. -/
theorem emb0_2 (t : Fin cfg0.N) (r : Fin 64) (l : Fin 1) :
    ((cfg0.win 2).blk t).view.emb (ix2 r l : S64x1.Idx) = (ix2 (row0 t r) l : S6144x1.Idx) := by
  obtain ⟨-, -, ⟨e0, e1⟩⟩ := idx0 t
  funext a; apply Fin.ext
  match a with
  | ⟨0, _⟩ => show win0_2.index t (0 : Fin 2) * 64 + 1 * r.val = t.val * 64 + r.val; omega
  | ⟨1, _⟩ => show win0_2.index t (1 : Fin 2) * 1 + 1 * l.val = l.val; omega

/-- The quantiser's block at an index, read in its array. -/
theorem iblk0_at (t : Fin cfg0.N) (r : Fin 64) (l : Fin 18432) :
    (iblk0 V c 0 t : Vec Ideal S64x18432 .bf16) (ix2 r l) = (V c main_v0 : Vec Ideal S6144x18432 .bf16) (ix2 (row0 t r) l) := by
  show (V c main_v0 : Vec Ideal S6144x18432 .bf16) (((cfg0.win 0).blk t).view.emb (ix2 r l : S64x18432.Idx)) = _
  rw [emb0_0]

/-- All rows' codes. -/
def Gq (x : Vec Ideal S6144x18432 .bf16) : Vec Ideal S6144x18432 .fp8e4m3 := fun i => kcodeOf (fun l : Fin 18432 => x (ix2 (i 0) l)) (i 1)

/-- All rows' scales. -/
def Gs (x : Vec Ideal S6144x18432 .bf16) : Vec Ideal S6144x1 .f32 := fun i => kscaleOf fun l : Fin 18432 => x (ix2 (i 0) l)

/-- What a step of the quantiser writes back of the codes is that block of the whole array's function. -/
theorem flushed0_1 (t : Fin cfg0.N) :
    (dat0 V c).flushed 1 t = ((cfg0.win 1).blk t).view.read (Elt Ideal) (Gq (V c main_v0)) := by
  show (cfg0.win 1).cut (grid0.coords t) ((dat0 V c).after 1 t) = _
  rw [after0_1]
  funext j
  change S64x18432.Idx at j
  obtain ⟨r, l, rfl⟩ : ∃ (r : Fin 64) (l : Fin 18432), j = ix2 r l := ⟨j 0, j 1, (ix2_eta j).symm⟩
  show out0_1 (iblk0 V c 0 t) (ix2 r l) = Gq (V c main_v0) (((cfg0.win 1).blk t).view.emb (ix2 r l : S64x18432.Idx))
  rw [emb0_1, out0_1_at]
  simp only [iblk0_at]
  rfl

/-- What a step of the quantiser writes back of the scales is that block of the whole array's function. -/
theorem flushed0_2 (t : Fin cfg0.N) :
    (dat0 V c).flushed 2 t = ((cfg0.win 2).blk t).view.read (Elt Ideal) (Gs (V c main_v0)) := by
  show (cfg0.win 2).cut (grid0.coords t) ((dat0 V c).after 2 t) = _
  rw [after0_2]
  funext j
  change S64x1.Idx at j
  obtain ⟨r, l, rfl⟩ : ∃ (r : Fin 64) (l : Fin 1), j = ix2 r l := ⟨j 0, j 1, (ix2_eta j).symm⟩
  show out0_2 (iblk0 V c 0 t) (ix2 r l) = Gs (V c main_v0) (((cfg0.win 2).blk t).view.emb (ix2 r l : S64x1.Idx))
  rw [emb0_2, out0_2_at]
  simp only [iblk0_at]
  rfl

/-- The block a row is in. -/
def blk0 (r : Fin 6144) : Fin cfg0.N := ⟨r.val / 64, show r.val / 64 < 96 by omega⟩

/-- A row is its place in the block that the quantiser holds it in. -/
theorem row0_blk0 (r : Fin 6144) : row0 (blk0 r) ⟨r.val % 64, by omega⟩ = r :=
  Fin.ext (by show r.val / 64 * 64 + r.val % 64 = r.val; omega)

/-- Every entry of the codes is written back by some step of the quantiser. -/
theorem covered0_1 (i : S6144x18432.Idx) : ∃ t : Fin cfg0.N, (cfg0.win 1).flush t = true ∧ i ∈ ((cfg0.win 1).blk t).view.set := by
  obtain ⟨r, l, rfl⟩ : ∃ (r : Fin 6144) (l : Fin 18432), i = ix2 r l := ⟨i 0, i 1, (ix2_eta i).symm⟩
  have e := emb0_1 (blk0 r) ⟨r.val % 64, by omega⟩ l
  rw [row0_blk0] at e
  exact ⟨blk0 r, flush0_1 _, e ▸ ((cfg0.win 1).blk (blk0 r)).view.emb_mem_set _⟩

/-- Every entry of the scales is written back by some step of the quantiser. -/
theorem covered0_2 (i : S6144x1.Idx) : ∃ t : Fin cfg0.N, (cfg0.win 2).flush t = true ∧ i ∈ ((cfg0.win 2).blk t).view.set := by
  obtain ⟨r, l, rfl⟩ : ∃ (r : Fin 6144) (l : Fin 1), i = ix2 r l := ⟨i 0, i 1, (ix2_eta i).symm⟩
  have e := emb0_2 (blk0 r) ⟨r.val % 64, by omega⟩ l
  rw [row0_blk0] at e
  exact ⟨blk0 r, flush0_2 _, e ▸ ((cfg0.win 2).blk (blk0 r)).view.emb_mem_set _⟩

/-- The array of codes after the quantiser. -/
theorem final0_1 : (dat0 V c).arrAt 1 cfg0.N = Gq (V c main_v0) :=
  (dat0 V c).arrAt_eq_of_cover 1 (Gq (V c main_v0)) (fun t _ => flushed0_1 V c t) covered0_1

/-- The array of scales after the quantiser. -/
theorem final0_2 : (dat0 V c).arrAt 2 cfg0.N = Gs (V c main_v0) :=
  (dat0 V c).arrAt_eq_of_cover 2 (Gs (V c main_v0)) (fun t _ => flushed0_2 V c t) covered0_2

end Cert.Proof.Ker

end
-- ==== Proof.KerProj.lean ====
module

public import proofs.«01_k».proof.Proof.KerBlock

/-!
  What the projection leaves in its result array, from the arrays it reads: every entry of the scaled product.
-/

@[expose] public section

noncomputable section

namespace Cert.Proof.Ker

open Cert.KernelIdeal Cert.KernelIdeal.Gen Idealize.ShloMosaic Idealize.ShloMosaic.TcCoe

variable (V : (c : Dev nD) → (b : Ref sig .tc) → Buf (Elt Ideal) ((c : Thread nD τ).loc b)) (c : Dev nD)

/-- Grid point `t` takes row block `t / 14` and column block `t % 14`. -/
theorem idx1 : ∀ t : Fin cfg1.N, (win1_0.index t (0 : Fin 2) = t.val / 14 ∧ win1_0.index t (1 : Fin 2) = 0)
    ∧ (win1_1.index t (0 : Fin 2) = 0 ∧ win1_1.index t (1 : Fin 2) = t.val % 14)
    ∧ (win1_2.index t (0 : Fin 2) = t.val / 14 ∧ win1_2.index t (1 : Fin 2) = 0)
    ∧ (win1_3.index t (0 : Fin 2) = 0 ∧ win1_3.index t (1 : Fin 2) = t.val % 14)
    ∧ (win1_4.index t (0 : Fin 2) = t.val / 14 ∧ win1_4.index t (1 : Fin 2) = t.val % 14) :=
  (by decide +kernel : ∀ t : Fin grid1.N, _)

/-- The number of grid steps of the projection. -/
theorem lt1 (t : Fin cfg1.N) : t.val < 168 := t.isLt

/-- The array row that row `r` of a block is. -/
def row1 (t : Fin cfg1.N) (r : Fin 512) : Fin 6144 := ⟨t.val / 14 * 512 + r.val, by have := lt1 t; omega⟩

/-- The array column that column `j` of a block is. -/
def col1 (t : Fin cfg1.N) (j : Fin 512) : Fin 7168 := ⟨t.val % 14 * 512 + j.val, by omega⟩

/-- Where an entry of a step's block of the codes lies in its array, in the projection. -/
theorem emb1_0 (t : Fin cfg1.N) (r : Fin 512) (l : Fin 18432) :
    ((cfg1.win 0).blk t).view.emb (ix2 r l : S512x18432.Idx) = (ix2 (row1 t r) l : S6144x18432.Idx) := by
  obtain ⟨⟨e0, e1⟩, -⟩ := idx1 t
  funext a; apply Fin.ext
  match a with
  | ⟨0, _⟩ => show win1_0.index t (0 : Fin 2) * 512 + 1 * r.val = t.val / 14 * 512 + r.val; omega
  | ⟨1, _⟩ => show win1_0.index t (1 : Fin 2) * 18432 + 1 * l.val = l.val; omega

/-- Where an entry of a step's block of the weights lies in its array, in the projection. -/
theorem emb1_1 (t : Fin cfg1.N) (k : Fin 18432) (j : Fin 512) :
    ((cfg1.win 1).blk t).view.emb (ix2 k j : S18432x512.Idx) = (ix2 k (col1 t j) : S18432x7168.Idx) := by
  obtain ⟨-, ⟨e0, e1⟩, -⟩ := idx1 t
  funext a; apply Fin.ext
  match a with
  | ⟨0, _⟩ => show win1_1.index t (0 : Fin 2) * 18432 + 1 * k.val = k.val; omega
  | ⟨1, _⟩ => show win1_1.index t (1 : Fin 2) * 512 + 1 * j.val = t.val % 14 * 512 + j.val; omega

/-- Where an entry of a step's block of the scales of `x` lies in its array, in the projection. -/
theorem emb1_2 (t : Fin cfg1.N) (r : Fin 512) (l : Fin 1) :
    ((cfg1.win 2).blk t).view.emb (ix2 r l : S512x1.Idx) = (ix2 (row1 t r) l : S6144x1.Idx) := by
  obtain ⟨-, -, ⟨e0, e1⟩, -⟩ := idx1 t
  funext a; apply Fin.ext
  match a with
  | ⟨0, _⟩ => show win1_2.index t (0 : Fin 2) * 512 + 1 * r.val = t.val / 14 * 512 + r.val; omega
  | ⟨1, _⟩ => show win1_2.index t (1 : Fin 2) * 1 + 1 * l.val = l.val; omega

/-- Where an entry of a step's block of the scales of the weights lies in its array, in the projection. -/
theorem emb1_3 (t : Fin cfg1.N) (l : Fin 1) (j : Fin 512) :
    ((cfg1.win 3).blk t).view.emb (ix2 l j : S1x512.Idx) = (ix2 l (col1 t j) : S1x7168.Idx) := by
  obtain ⟨-, -, -, ⟨e0, e1⟩, -⟩ := idx1 t
  funext a; apply Fin.ext
  match a with
  | ⟨0, _⟩ => show win1_3.index t (0 : Fin 2) * 1 + 1 * l.val = l.val; omega
  | ⟨1, _⟩ => show win1_3.index t (1 : Fin 2) * 512 + 1 * j.val = t.val % 14 * 512 + j.val; omega

/-- Where an entry of a step's block of the projection lies in its array, in the projection. -/
theorem emb1_4 (t : Fin cfg1.N) (r j : Fin 512) :
    ((cfg1.win 4).blk t).view.emb (ix2 r j : S512x512.Idx) = (ix2 (row1 t r) (col1 t j) : S6144x7168.Idx) := by
  obtain ⟨-, -, -, -, e0, e1⟩ := idx1 t
  funext a; apply Fin.ext
  match a with
  | ⟨0, _⟩ => show win1_4.index t (0 : Fin 2) * 512 + 1 * r.val = t.val / 14 * 512 + r.val; omega
  | ⟨1, _⟩ => show win1_4.index t (1 : Fin 2) * 512 + 1 * j.val = t.val % 14 * 512 + j.val; omega

/-! The blocks at an index, read in their arrays. -/

/-- An entry of a step's block of the codes, read from its array, in the projection. -/
theorem iblk1_0_at (t : Fin cfg1.N) (r : Fin 512) (l : Fin 18432) :
    (iblk1 V c 0 t : Vec Ideal S512x18432 .fp8e4m3) (ix2 r l) = (V c main_v2_0 : Vec Ideal S6144x18432 .fp8e4m3) (ix2 (row1 t r) l) := by
  show (V c main_v2_0 : Vec Ideal S6144x18432 .fp8e4m3) (((cfg1.win 0).blk t).view.emb (ix2 r l : S512x18432.Idx)) = _
  rw [emb1_0]

/-- An entry of a step's block of the weights, read from its array, in the projection. -/
theorem iblk1_1_at (t : Fin cfg1.N) (k : Fin 18432) (j : Fin 512) :
    (iblk1 V c 1 t : Vec Ideal S18432x512 .fp8e4m3) (ix2 k j) = (V c main_arg2 : Vec Ideal S18432x7168 .fp8e4m3) (ix2 k (col1 t j)) := by
  show (V c main_arg2 : Vec Ideal S18432x7168 .fp8e4m3) (((cfg1.win 1).blk t).view.emb (ix2 k j : S18432x512.Idx)) = _
  rw [emb1_1]

/-- An entry of a step's block of the scales of `x`, read from its array, in the projection. -/
theorem iblk1_2_at (t : Fin cfg1.N) (r : Fin 512) (l : Fin 1) :
    (iblk1 V c 2 t : Vec Ideal S512x1 .f32) (ix2 r l) = (V c main_v2_1 : Vec Ideal S6144x1 .f32) (ix2 (row1 t r) l) := by
  show (V c main_v2_1 : Vec Ideal S6144x1 .f32) (((cfg1.win 2).blk t).view.emb (ix2 r l : S512x1.Idx)) = _
  rw [emb1_2]

/-- An entry of a step's block of the scales of the weights, read from its array, in the projection. -/
theorem iblk1_3_at (t : Fin cfg1.N) (l : Fin 1) (j : Fin 512) :
    (iblk1 V c 3 t : Vec Ideal S1x512 .f32) (ix2 l j) = (V c main_v3 : Vec Ideal S1x7168 .f32) (ix2 l (col1 t j)) := by
  show (V c main_v3 : Vec Ideal S1x7168 .f32) (((cfg1.win 3).blk t).view.emb (ix2 l j : S1x512.Idx)) = _
  rw [emb1_3]

/-- The scaled product. -/
def Gy (q : Vec Ideal S6144x18432 .fp8e4m3) (w : Vec Ideal S18432x7168 .fp8e4m3) (xs : Vec Ideal S6144x1 .f32) (ws : Vec Ideal S1x7168 .f32) :
    Vec Ideal S6144x7168 .f32 := fun i =>
  yOf (fun k : Fin 18432 => q (ix2 (i 0) k)) (fun k => w (ix2 k (i 1))) (xs (ix2 (i 0) 0)) (ws (ix2 0 (i 1)))

/-- What a step of the projection writes back of the projection is that block of the whole array's function. -/
theorem flushed1_4 (t : Fin cfg1.N) : (dat1 V c).flushed 4 t
    = ((cfg1.win 4).blk t).view.read (Elt Ideal) (Gy (V c main_v2_0) (V c main_arg2) (V c main_v2_1) (V c main_v3)) := by
  show (cfg1.win 4).cut (grid1.coords t) ((dat1 V c).after 4 t) = _
  rw [after1_4]
  funext j
  change S512x512.Idx at j
  obtain ⟨r, l, rfl⟩ : ∃ (r : Fin 512) (l : Fin 512), j = ix2 r l := ⟨j 0, j 1, (ix2_eta j).symm⟩
  show out1_4 (iblk1 V c 0 t) (iblk1 V c 1 t) (iblk1 V c 2 t) (iblk1 V c 3 t) (ix2 r l)
    = Gy (V c main_v2_0) (V c main_arg2) (V c main_v2_1) (V c main_v3) (((cfg1.win 4).blk t).view.emb (ix2 r l : S512x512.Idx))
  rw [emb1_4, out1_4_at]
  simp only [iblk1_0_at, iblk1_1_at, iblk1_2_at, iblk1_3_at]
  rfl

/-- The block an entry is in. -/
def blk1 (r : Fin 6144) (j : Fin 7168) : Fin cfg1.N := ⟨r.val / 512 * 14 + j.val / 512, show r.val / 512 * 14 + j.val / 512 < 168 by omega⟩

/-- A row is its place in the block that the projection holds it in. -/
theorem row1_blk1 (r : Fin 6144) (j : Fin 7168) : row1 (blk1 r j) ⟨r.val % 512, by omega⟩ = r :=
  Fin.ext (by show (r.val / 512 * 14 + j.val / 512) / 14 * 512 + r.val % 512 = r.val; omega)

/-- A column is its place in the block that the projection holds it in. -/
theorem col1_blk1 (r : Fin 6144) (j : Fin 7168) : col1 (blk1 r j) ⟨j.val % 512, by omega⟩ = j :=
  Fin.ext (by show (r.val / 512 * 14 + j.val / 512) % 14 * 512 + j.val % 512 = j.val; omega)

/-- Every entry of the projection is written back by some step of the projection. -/
theorem covered1_4 (i : S6144x7168.Idx) : ∃ t : Fin cfg1.N, (cfg1.win 4).flush t = true ∧ i ∈ ((cfg1.win 4).blk t).view.set := by
  obtain ⟨r, l, rfl⟩ : ∃ (r : Fin 6144) (l : Fin 7168), i = ix2 r l := ⟨i 0, i 1, (ix2_eta i).symm⟩
  have e := emb1_4 (blk1 r l) ⟨r.val % 512, by omega⟩ ⟨l.val % 512, by omega⟩
  rw [row1_blk1, col1_blk1] at e
  exact ⟨blk1 r l, flush1_4 _, e ▸ ((cfg1.win 4).blk (blk1 r l)).view.emb_mem_set _⟩

/-- The array after the projection. -/
theorem final1_4 : (dat1 V c).arrAt 4 cfg1.N = Gy (V c main_v2_0) (V c main_arg2) (V c main_v2_1) (V c main_v3) :=
  (dat1 V c).arrAt_eq_of_cover 4 _ (fun t _ => flushed1_4 V c t) covered1_4

end Cert.Proof.Ker

end
-- ==== Proof.KerGroups.lean ====
module

public import proofs.«01_k».proof.Proof.KerBlock

/-!
  The epilogue's 56 groups of 128 columns: every group is quantised by one and the same stretch of operations, here written
  once for an arbitrary group, and what the epilogue stores are its 56 instances.
-/

@[expose] public section

noncomputable section

namespace Cert.Proof.Ker

open Cert.KernelIdeal Cert.KernelIdeal.Gen Idealize.ShloMosaic

/-- A group of 128 columns is a slice of the 7168. -/
theorem slices_group (n : ℕ) (h : n < 56) : S128x7168.Slices ![0, 128 * n] S128x128 := by
  have : ∀ g : Fin 56, S128x7168.Slices ![0, 128 * g.val] S128x128 := by decide
  exact this ⟨n, h⟩

/-- A group of 128 columns lies within the 7168. -/
theorem inb_group (n : ℕ) (h : n < 56) : ∀ a, (![0, 128 * n] : Fin 2 → ℕ) a + S128x128.size a ≤ S128x7168.size a := by
  have : ∀ g : Fin 56, ∀ a, (![0, 128 * g.val] : Fin 2 → ℕ) a + S128x128.size a ≤ S128x7168.size a := by decide
  exact this ⟨n, h⟩

/-- Columns `128 n` to `128 n + 127`. -/
def grpOfCols (z : FVec Ideal S128x7168 .f32) (n : ℕ) (h : n < 56) : FVec Ideal S128x128 .f32 :=
  extractStridedSlice S128x128 ![0, 128 * n] z (slices_group n h)

/-- The exponent fields of a group's rows. -/
def grpField (v : FVec Ideal S128x128 .f32) : IVec S128x1 32 :=
  shapeCast S128x1 (multiReductionI .maxsi [1] S128
    (select (cmpf .ogt (bitcastToFloat .f32 (shli (iota .tc S128x256 32 [1] iota_S128x256_d1_w32) (broadcast S128x256 23#32)))
      (broadcastTo S128x256 (mulf (shapeCast S128x1 (multiReduction .maximumf [1] S128 (absf v) 0xFF800000#32
        reduces_S128x128_S128 (.inl rfl) rfl) shapeCasts_S128_S128x1) (broadcast S128x1 (Scalar.ofBits .f32 0x3B124925#32)))
        broadcasts_S128x1_S128x256))
      (broadcast S128x256 0#32) (shli (iota .tc S128x256 32 [1] iota_S128x256_d1_w32) (broadcast S128x256 23#32)))
    2147483648#32 reduces_S128x256_S128 rfl) shapeCasts_S128_S128x1

/-- The scales from the fields. -/
def grpScale (e : IVec S128x1 32) : FVec Ideal S128x1 .f32 :=
  bitcastToFloat .f32 (select (cmpi .eq e (broadcast S128x1 0#32)) (broadcast S128x1 1065353216#32)
    (addi e (broadcast S128x1 8388608#32)))

/-- The inverse scales from the fields. -/
def grpInv (e : IVec S128x1 32) : FVec Ideal S128x1 .f32 :=
  bitcastToFloat .f32 (select (cmpi .eq e (broadcast S128x1 0#32)) (broadcast S128x1 1065353216#32)
    (subi (broadcast S128x1 2122317824#32) e))

/-- A group's codes. -/
def grpCodes (v : FVec Ideal S128x128 .f32) : FVec Ideal S128x128 .fp8e4m3 :=
  truncf .fp8e4m3 (minimumf (broadcast S128x128 (Scalar.ofBits .f32 0x43E00000#32))
    (maximumf (broadcast S128x128 (Scalar.ofBits .f32 0xC3E00000#32))
      (mulf v (broadcastTo S128x128 (grpInv (grpField v)) broadcasts_S128x1_S128x128)))) bitsLt_fp8e4m3_f32

/-- The lanes after `n` groups: lane `g` holds group `g`'s scale. -/
def lanes (z : FVec Ideal S128x7168 .f32) : (n : ℕ) → n ≤ 56 → FVec Ideal S128x128 .f32
  | 0, _ => k2_pay6
  | n + 1, h => select (cmpi .eq (iota .tc S128x128 32 [1] iota_S128x128_d1_w32) (broadcast S128x128 (BitVec.ofNat 32 n)))
      (broadcastTo S128x128 (shapeCast S128x1 (grpScale (grpField (grpOfCols z n h))) shapeCasts_S128x1_S128x1)
        broadcasts_S128x1_S128x128) (lanes z n (Nat.le_of_succ_le h))

/-- The stores of the first `n` groups' codes, last first. -/
def codePieces (z : FVec Ideal S128x7168 .f32) : (n : ℕ) → n ≤ 56 → List (View.Piece (Elt Ideal) S128x7168 .fp8e4m3)
  | 0, _ => []
  | n + 1, h => ⟨Rect.unit (s := S128x7168) ![0, 128 * n] S128x128.size (inb_group n h), grpCodes (grpOfCols z n h)⟩
      :: codePieces z n (Nat.le_of_succ_le h)

section
variable (y : Vec Ideal S128x7168 .f32) (v : Vec Ideal S128x7168 .bf16) (gp gq : Vec Ideal S1x7168 .f32)

/-- The normed rows of a block. -/
def zBlk : FVec Ideal S128x7168 .f32 := k2_pay5 (k2_pay3 y gp v) (k2_pay4 gq)

/-- The kernel's normed block is `zBlk`. -/
theorem pay379_eq : k2_pay379 (F := Ideal) y v gp gq = zBlk y v gp gq := by
  unfold k2_pay379 k2_pay376 k2_pay377 zBlk
  rw [View.ld_unit_zero (S := S128x7168) (by decide),
    View.ld_unit_zero (S := S1x7168) (by decide), View.ld_unit_zero (S := S128x7168) (by decide), View.ld_unit_zero (S := S1x7168) (by decide)]

set_option maxRecDepth 65536 in
/-- The codes the epilogue stores are the 56 groups' codes. -/
theorem out2_5_eq : out2_5 (F := Ideal) y v gp gq = View.canon (codePieces (k2_pay379 y v gp gq) 56 le_rfl) := rfl

set_option maxRecDepth 65536 in
/-- The scales the epilogue stores are the first 56 lanes. -/
theorem out2_6_eq : out2_6 (F := Ideal) y v gp gq = View.canon [⟨r2_58,
    extractStridedSlice S128x56 ![0, 0] (lanes (k2_pay379 y v gp gq) 56 le_rfl) slices_S128x128_o0_0_S128x56⟩] := rfl

end

end Cert.Proof.Ker

end
-- ==== Proof.KerGroupsAt.lean ====
module

public import proofs.«01_k».proof.Proof.KerGroups

/-!
  The epilogue's codes and scales at an index.
-/

@[expose] public section

noncomputable section

namespace Cert.Proof.Ker

open Cert.KernelIdeal Cert.KernelIdeal.Gen Idealize.ShloMosaic

/-- A group's columns, read in the whole row. -/
theorem grpOfCols_at (z : FVec Ideal S128x7168 .f32) (n : ℕ) (h : n < 56) (r l : Fin 128) :
    grpOfCols z n h (ix2 r l) = grp (fun j => z (ix2 r j)) ⟨n, h⟩ l := by
  unfold grpOfCols grp extractStridedSlice
  refine congrArg z (funext fun a => ?_)
  fin_cases a
  · exact Fin.ext (Nat.zero_add _)
  · exact Fin.ext (by show 128 * n + l.val = n * 128 + l.val; omega)

/-- The field of a group's row. -/
theorem grpField_at (v : FVec Ideal S128x128 .f32) (r : Fin 128) (i : Fin 1) :
    grpField v (ix2 r i) = field (tOf fun l : Fin 128 => v (ix2 r l)) := by
  unfold grpField
  rw [gfield_at, tg_at]

/-- The scale of a group's row. -/
theorem grpScale_at (v : FVec Ideal S128x128 .f32) (r : Fin 128) (i : Fin 1) :
    grpScale (grpField v) (ix2 r i) = kscaleOf fun l : Fin 128 => v (ix2 r l) := by
  unfold grpScale kscaleOf
  rw [kscale_at, grpField_at]

/-- The codes of a group's row. -/
theorem grpCodes_at (v : FVec Ideal S128x128 .f32) (r l : Fin 128) :
    grpCodes v (ix2 r l) = kcodeOf (fun l : Fin 128 => v (ix2 r l)) l := by
  unfold grpCodes grpInv kcodeOf
  rw [gcodes_at, kinv_at, grpField_at]

/-- Lane `g` after `n` groups, `g < n`. -/
theorem lanes_val (z : FVec Ideal S128x7168 .f32) (r : Fin 128) (g : Fin 56) : ∀ (n : ℕ) (h : n ≤ 56), g.val < n →
    lanes z n h (ix2 r ⟨g.val, by omega⟩) = kscaleOf (grp (fun j => z (ix2 r j)) g)
  | 0, _, hg => absurd hg (by omega)
  | n + 1, h, hg => by
    rw [lanes, lane_at]
    by_cases e : g.val = n
    · rw [if_pos (by rw [e]), grpScale_at]
      subst e
      simp only [grpOfCols_at]
    · rw [if_neg, lanes_val z r g n (Nat.le_of_succ_le h) (by omega)]
      intro hb
      have := congrArg BitVec.toNat hb
      simp only [BitVec.toNat_ofNat] at this
      omega

/-- The codes of all 56 groups, at an index of the whole row. -/
def codesOfCols (z : FVec Ideal S128x7168 .f32) : Vec Ideal S128x7168 .fp8e4m3 := fun i =>
  kcodeOf (grp (fun j => z (ix2 (i 0) j)) (grpOf (i 1))) (inGrp (i 1))

/-- Every store of codes holds its group's. -/
theorem codePieces_at (z : FVec Ideal S128x7168 .f32) : ∀ (n : ℕ) (h : n ≤ 56), ∀ p ∈ codePieces z n h, ∀ x : p.1.shape.Idx,
    p.2 x = codesOfCols z (p.1.emb x)
  | 0, _, p, hp, _ => absurd hp (by simp [codePieces])
  | n + 1, h, p, hp, x => by
    rw [codePieces, List.mem_cons] at hp
    rcases hp with rfl | hp
    · change S128x128.Idx at x
      obtain ⟨r, l, rfl⟩ : ∃ r l : Fin 128, x = ix2 r l := ⟨x 0, x 1, (ix2_eta x).symm⟩
      rw [show ∀ a : FVec Ideal S128x128 .fp8e4m3, (⟨Rect.unit (s := S128x7168) ![0, 128 * n] S128x128.size (inb_group n h), a⟩ :
        View.Piece (Elt Ideal) S128x7168 .fp8e4m3).2 (ix2 r l) = a (ix2 r l) from fun _ => rfl, grpCodes_at]
      simp only [grpOfCols_at]
      have e0 : ((Rect.unit (s := S128x7168) ![0, 128 * n] S128x128.size (inb_group n h)).emb (ix2 r l)) 0 = r :=
        Fin.ext (by show 0 + 1 * r.val = r.val; omega)
      have e1 : ((Rect.unit (s := S128x7168) ![0, 128 * n] S128x128.size (inb_group n h)).emb (ix2 r l)) 1
          = (⟨128 * n + l.val, by omega⟩ : Fin 7168) := Fin.ext (by show 128 * n + 1 * l.val = 128 * n + l.val; omega)
      show _ = kcodeOf (grp (fun j => z (ix2 (((Rect.unit (s := S128x7168) ![0, 128 * n] S128x128.size (inb_group n h)).emb (ix2 r l)) 0) j))
        (grpOf (((Rect.unit (s := S128x7168) ![0, 128 * n] S128x128.size (inb_group n h)).emb (ix2 r l)) 1)))
        (inGrp (((Rect.unit (s := S128x7168) ![0, 128 * n] S128x128.size (inb_group n h)).emb (ix2 r l)) 1))
      rw [e0, e1, show grpOf (⟨128 * n + l.val, by omega⟩ : Fin 7168) = ⟨n, h⟩ from Fin.ext (by show (128 * n + l.val) / 128 = n; omega),
        show inGrp (⟨128 * n + l.val, by omega⟩ : Fin 7168) = l from Fin.ext (by show (128 * n + l.val) % 128 = l.val; omega)]
    · exact codePieces_at z n (Nat.le_of_succ_le h) p hp x

/-- Every index of a block is in the store of its column's group. -/
theorem codePieces_cover (z : FVec Ideal S128x7168 .f32) (r : Fin 128) (j : Fin 7168) : ∀ (n : ℕ) (h : n ≤ 56), j.val < 128 * n →
    ∃ p ∈ codePieces z n h, (ix2 r j : S128x7168.Idx) ∈ p.1.set
  | 0, _, hj => absurd hj (by omega)
  | n + 1, h, hj => by
    by_cases e : j.val < 128 * n
    · obtain ⟨p, hp, hy⟩ := codePieces_cover z r j n (Nat.le_of_succ_le h) e
      exact ⟨p, by rw [codePieces]; exact List.mem_cons_of_mem _ hp, hy⟩
    · refine ⟨_, by rw [codePieces]; exact List.mem_cons_self, ?_⟩
      rw [Rect.mem_set_unit]
      intro a
      fin_cases a
      · exact ⟨Nat.zero_le _, by show r.val < 0 + 128; omega⟩
      · exact ⟨by show 128 * n ≤ j.val; omega, by show j.val < 128 * n + 128; omega⟩

section
variable (y : Vec Ideal S128x7168 .f32) (v : Vec Ideal S128x7168 .bf16) (gp gq : Vec Ideal S1x7168 .f32) (r : Fin 128)

/-- The normed row a block's codes and scales come from. -/
def zRow : Fin 7168 → EReal :=
  normed (hRow (fun j => y (ix2 r j)) (fun j => gp (ix2 0 j)) (fun j => v (ix2 r j))) (fun j => gq (ix2 0 j))

/-- A row of the normed block. -/
theorem zBlk_row : (fun j : Fin 7168 => (zBlk y v gp gq (ix2 r j) : EReal)) = zRow y v gp gq r :=
  funext fun j => k2_z_at y v gp gq r j

/-- The block of codes the epilogue stores. -/
theorem out2_5_at (j : Fin 7168) : out2_5 (F := Ideal) y v gp gq (ix2 r j)
    = kcodeOf (grp (zRow y v gp gq r) (grpOf j)) (inGrp j) := by
  rw [out2_5_eq, pay379_eq, View.canon_apply_of_pieces (codesOfCols (zBlk y v gp gq)) _ (codePieces_at (zBlk y v gp gq) 56 le_rfl) _
    (codePieces_cover _ r j 56 le_rfl (by omega)), ← zBlk_row]
  rfl

/-- The block of scales the epilogue stores. -/
theorem out2_6_at (g : Fin 56) : out2_6 (F := Ideal) y v gp gq (ix2 r g) = kscaleOf (grp (zRow y v gp gq r) g) := by
  rw [out2_6_eq, pay379_eq, View.canon_unit_zero (S := S128x56) (by decide), lanes_at, lanes_val _ _ _ 56 le_rfl (by omega), ← zBlk_row]

end

end Cert.Proof.Ker

end
-- ==== Proof.KerEpi.lean ====
module

public import proofs.«01_k».proof.Proof.KerGroupsAt

/-!
  What the epilogue leaves in its three result arrays, from the arrays it reads: every residual row, its codes and its scales.
-/

@[expose] public section

noncomputable section

namespace Cert.Proof.Ker

open Cert.KernelIdeal Cert.KernelIdeal.Gen Idealize.ShloMosaic Idealize.ShloMosaic.TcCoe

variable (V : (c : Dev nD) → (b : Ref sig .tc) → Buf (Elt Ideal) ((c : Thread nD τ).loc b)) (c : Dev nD)

/-- Grid point `t` takes row block `t` of every window but the two rows of weights. -/
theorem idx2 : ∀ t : Fin cfg2.N, (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = t.val ∧ win2_4.index t (1 : Fin 2) = 0)
    ∧ (win2_5.index t (0 : Fin 2) = t.val ∧ win2_5.index t (1 : Fin 2) = 0)
    ∧ (win2_6.index t (0 : Fin 2) = t.val ∧ win2_6.index t (1 : Fin 2) = 0) :=
  (by decide +kernel : ∀ t : Fin grid2.N, _)

/-- The number of grid steps of the epilogue. -/
theorem lt2 (t : Fin cfg2.N) : t.val < 48 := t.isLt

/-- The array row that row `r` of block `t` is. -/
def row2 (t : Fin cfg2.N) (r : Fin 128) : Fin 6144 := ⟨t.val * 128 + r.val, by have := lt2 t; omega⟩

/-- Where an entry of a step's block of the projection lies in its array, in the epilogue. -/
theorem emb2_0 (t : Fin cfg2.N) (r : Fin 128) (l : Fin 7168) :
    ((cfg2.win 0).blk t).view.emb (ix2 r l : S128x7168.Idx) = (ix2 (row2 t r) l : S6144x7168.Idx) := by
  obtain ⟨⟨e0, e1⟩, -⟩ := idx2 t
  funext a; apply Fin.ext
  match a with
  | ⟨0, _⟩ => show win2_0.index t (0 : Fin 2) * 128 + 1 * r.val = t.val * 128 + r.val; omega
  | ⟨1, _⟩ => show win2_0.index t (1 : Fin 2) * 7168 + 1 * l.val = l.val; omega

/-- Where an entry of a step's block of the residual lies in its array, in the epilogue. -/
theorem emb2_1 (t : Fin cfg2.N) (r : Fin 128) (l : Fin 7168) :
    ((cfg2.win 1).blk t).view.emb (ix2 r l : S128x7168.Idx) = (ix2 (row2 t r) l : S6144x7168.Idx) := by
  obtain ⟨-, ⟨e0, e1⟩, -⟩ := idx2 t
  funext a; apply Fin.ext
  match a with
  | ⟨0, _⟩ => show win2_1.index t (0 : Fin 2) * 128 + 1 * r.val = t.val * 128 + r.val; omega
  | ⟨1, _⟩ => show win2_1.index t (1 : Fin 2) * 7168 + 1 * l.val = l.val; omega

/-- Where an entry of a step's block of the first norm's weights lies in its array, in the epilogue. -/
theorem emb2_2 (t : Fin cfg2.N) (r : Fin 1) (l : Fin 7168) :
    ((cfg2.win 2).blk t).view.emb (ix2 r l : S1x7168.Idx) = (ix2 r l : S1x7168.Idx) := by
  obtain ⟨-, -, ⟨e0, e1⟩, -⟩ := idx2 t
  funext a; apply Fin.ext
  match a with
  | ⟨0, _⟩ => show win2_2.index t (0 : Fin 2) * 1 + 1 * r.val = r.val; omega
  | ⟨1, _⟩ => show win2_2.index t (1 : Fin 2) * 7168 + 1 * l.val = l.val; omega

/-- Where an entry of a step's block of the second norm's weights lies in its array, in the epilogue. -/
theorem emb2_3 (t : Fin cfg2.N) (r : Fin 1) (l : Fin 7168) :
    ((cfg2.win 3).blk t).view.emb (ix2 r l : S1x7168.Idx) = (ix2 r l : S1x7168.Idx) := by
  obtain ⟨-, -, -, ⟨e0, e1⟩, -⟩ := idx2 t
  funext a; apply Fin.ext
  match a with
  | ⟨0, _⟩ => show win2_3.index t (0 : Fin 2) * 1 + 1 * r.val = r.val; omega
  | ⟨1, _⟩ => show win2_3.index t (1 : Fin 2) * 7168 + 1 * l.val = l.val; omega

/-- Where an entry of a step's block of the new residual stream lies in its array, in the epilogue. -/
theorem emb2_4 (t : Fin cfg2.N) (r : Fin 128) (l : Fin 7168) :
    ((cfg2.win 4).blk t).view.emb (ix2 r l : S128x7168.Idx) = (ix2 (row2 t r) l : S6144x7168.Idx) := by
  obtain ⟨-, -, -, -, ⟨e0, e1⟩, -⟩ := idx2 t
  funext a; apply Fin.ext
  match a with
  | ⟨0, _⟩ => show win2_4.index t (0 : Fin 2) * 128 + 1 * r.val = t.val * 128 + r.val; omega
  | ⟨1, _⟩ => show win2_4.index t (1 : Fin 2) * 7168 + 1 * l.val = l.val; omega

/-- Where an entry of a step's block of the codes lies in its array, in the epilogue. -/
theorem emb2_5 (t : Fin cfg2.N) (r : Fin 128) (l : Fin 7168) :
    ((cfg2.win 5).blk t).view.emb (ix2 r l : S128x7168.Idx) = (ix2 (row2 t r) l : S6144x7168.Idx) := by
  obtain ⟨-, -, -, -, -, ⟨e0, e1⟩, -⟩ := idx2 t
  funext a; apply Fin.ext
  match a with
  | ⟨0, _⟩ => show win2_5.index t (0 : Fin 2) * 128 + 1 * r.val = t.val * 128 + r.val; omega
  | ⟨1, _⟩ => show win2_5.index t (1 : Fin 2) * 7168 + 1 * l.val = l.val; omega

/-- Where an entry of a step's block of the scales lies in its array, in the epilogue. -/
theorem emb2_6 (t : Fin cfg2.N) (r : Fin 128) (l : Fin 56) :
    ((cfg2.win 6).blk t).view.emb (ix2 r l : S128x56.Idx) = (ix2 (row2 t r) l : S6144x56.Idx) := by
  obtain ⟨-, -, -, -, -, -, e0, e1⟩ := idx2 t
  funext a; apply Fin.ext
  match a with
  | ⟨0, _⟩ => show win2_6.index t (0 : Fin 2) * 128 + 1 * r.val = t.val * 128 + r.val; omega
  | ⟨1, _⟩ => show win2_6.index t (1 : Fin 2) * 56 + 1 * l.val = l.val; omega

/-! The blocks at an index, read in their arrays. -/

/-- An entry of a step's block of the projection, read from its array, in the epilogue. -/
theorem iblk2_0_at (t : Fin cfg2.N) (r : Fin 128) (l : Fin 7168) :
    (iblk2 V c 0 t : Vec Ideal S128x7168 .f32) (ix2 r l) = (V c main_v4 : Vec Ideal S6144x7168 .f32) (ix2 (row2 t r) l) := by
  show (V c main_v4 : Vec Ideal S6144x7168 .f32) (((cfg2.win 0).blk t).view.emb (ix2 r l : S128x7168.Idx)) = _
  rw [emb2_0]

/-- An entry of a step's block of the residual, read from its array, in the epilogue. -/
theorem iblk2_1_at (t : Fin cfg2.N) (r : Fin 128) (l : Fin 7168) :
    (iblk2 V c 1 t : Vec Ideal S128x7168 .bf16) (ix2 r l) = (V c main_v1 : Vec Ideal S6144x7168 .bf16) (ix2 (row2 t r) l) := by
  show (V c main_v1 : Vec Ideal S6144x7168 .bf16) (((cfg2.win 1).blk t).view.emb (ix2 r l : S128x7168.Idx)) = _
  rw [emb2_1]

/-- An entry of a step's block of the first norm's weights, read from its array, in the epilogue. -/
theorem iblk2_2_at (t : Fin cfg2.N) (r : Fin 1) (l : Fin 7168) :
    (iblk2 V c 2 t : Vec Ideal S1x7168 .f32) (ix2 r l) = (V c main_v5 : Vec Ideal S1x7168 .f32) (ix2 r l) := by
  show (V c main_v5 : Vec Ideal S1x7168 .f32) (((cfg2.win 2).blk t).view.emb (ix2 r l : S1x7168.Idx)) = _
  rw [emb2_2]

/-- An entry of a step's block of the second norm's weights, read from its array, in the epilogue. -/
theorem iblk2_3_at (t : Fin cfg2.N) (r : Fin 1) (l : Fin 7168) :
    (iblk2 V c 3 t : Vec Ideal S1x7168 .f32) (ix2 r l) = (V c main_v6 : Vec Ideal S1x7168 .f32) (ix2 r l) := by
  show (V c main_v6 : Vec Ideal S1x7168 .f32) (((cfg2.win 3).blk t).view.emb (ix2 r l : S1x7168.Idx)) = _
  rw [emb2_3]

section
variable (y : Vec Ideal S6144x7168 .f32) (v : Vec Ideal S6144x7168 .bf16) (gp gq : Vec Ideal S1x7168 .f32)

/-- A residual row. -/
def hAll (R : Fin 6144) : Fin 7168 → EReal := hRow (fun j => y (ix2 R j)) (fun j => gp (ix2 0 j)) (fun j => v (ix2 R j))

/-- A normed residual row. -/
def zAll (R : Fin 6144) : Fin 7168 → EReal := normed (hAll y v gp R) fun j => gq (ix2 0 j)

/-- All residual rows. -/
def Gh : Vec Ideal S6144x7168 .bf16 := fun i => hAll y v gp (i 0) (i 1)

/-- All rows' codes. -/
def Gc : Vec Ideal S6144x7168 .fp8e4m3 := fun i => kcodeOf (grp (zAll y v gp gq (i 0)) (grpOf (i 1))) (inGrp (i 1))

/-- All rows' scales. -/
def Gz : Vec Ideal S6144x56 .f32 := fun i => kscaleOf (grp (zAll y v gp gq (i 0)) (i 1))

end

/-- A normed row of a step's block is that row of the whole array. -/
theorem zRow_at (t : Fin cfg2.N) (r : Fin 128) : zRow (iblk2 V c 0 t) (iblk2 V c 1 t) (iblk2 V c 2 t) (iblk2 V c 3 t) r
    = zAll (V c main_v4) (V c main_v1) (V c main_v5) (V c main_v6) (row2 t r) := by
  unfold zRow zAll hAll
  simp only [iblk2_0_at, iblk2_1_at, iblk2_2_at, iblk2_3_at]

/-- What a step of the epilogue writes back of the new residual stream is that block of the whole array's function. -/
theorem flushed2_4 (t : Fin cfg2.N) : (dat2 V c).flushed 4 t
    = ((cfg2.win 4).blk t).view.read (Elt Ideal) (Gh (V c main_v4) (V c main_v1) (V c main_v5)) := by
  show (cfg2.win 4).cut (grid2.coords t) ((dat2 V c).after 4 t) = _
  rw [after2_4]
  funext j
  change S128x7168.Idx at j
  obtain ⟨r, l, rfl⟩ : ∃ (r : Fin 128) (l : Fin 7168), j = ix2 r l := ⟨j 0, j 1, (ix2_eta j).symm⟩
  show out2_4 (iblk2 V c 0 t) (iblk2 V c 1 t) (iblk2 V c 2 t) (iblk2 V c 3 t) (ix2 r l)
    = Gh (V c main_v4) (V c main_v1) (V c main_v5) (((cfg2.win 4).blk t).view.emb (ix2 r l : S128x7168.Idx))
  rw [emb2_4, out2_4_at]
  simp only [iblk2_0_at, iblk2_1_at, iblk2_2_at]
  rfl

/-- What a step of the epilogue writes back of the codes is that block of the whole array's function. -/
theorem flushed2_5 (t : Fin cfg2.N) : (dat2 V c).flushed 5 t
    = ((cfg2.win 5).blk t).view.read (Elt Ideal) (Gc (V c main_v4) (V c main_v1) (V c main_v5) (V c main_v6)) := by
  show (cfg2.win 5).cut (grid2.coords t) ((dat2 V c).after 5 t) = _
  rw [after2_5]
  funext j
  change S128x7168.Idx at j
  obtain ⟨r, l, rfl⟩ : ∃ (r : Fin 128) (l : Fin 7168), j = ix2 r l := ⟨j 0, j 1, (ix2_eta j).symm⟩
  show out2_5 (iblk2 V c 0 t) (iblk2 V c 1 t) (iblk2 V c 2 t) (iblk2 V c 3 t) (ix2 r l)
    = Gc (V c main_v4) (V c main_v1) (V c main_v5) (V c main_v6) (((cfg2.win 5).blk t).view.emb (ix2 r l : S128x7168.Idx))
  rw [emb2_5, out2_5_at, zRow_at]
  rfl

/-- What a step of the epilogue writes back of the scales is that block of the whole array's function. -/
theorem flushed2_6 (t : Fin cfg2.N) : (dat2 V c).flushed 6 t
    = ((cfg2.win 6).blk t).view.read (Elt Ideal) (Gz (V c main_v4) (V c main_v1) (V c main_v5) (V c main_v6)) := by
  show (cfg2.win 6).cut (grid2.coords t) ((dat2 V c).after 6 t) = _
  rw [after2_6]
  funext j
  change S128x56.Idx at j
  obtain ⟨r, l, rfl⟩ : ∃ (r : Fin 128) (l : Fin 56), j = ix2 r l := ⟨j 0, j 1, (ix2_eta j).symm⟩
  show out2_6 (iblk2 V c 0 t) (iblk2 V c 1 t) (iblk2 V c 2 t) (iblk2 V c 3 t) (ix2 r l)
    = Gz (V c main_v4) (V c main_v1) (V c main_v5) (V c main_v6) (((cfg2.win 6).blk t).view.emb (ix2 r l : S128x56.Idx))
  rw [emb2_6, out2_6_at, zRow_at]
  rfl

/-- The block a row is in. -/
def blk2 (r : Fin 6144) : Fin cfg2.N := ⟨r.val / 128, show r.val / 128 < 48 by omega⟩

/-- A row is its place in the block that the epilogue holds it in. -/
theorem row2_blk2 (r : Fin 6144) : row2 (blk2 r) ⟨r.val % 128, by omega⟩ = r :=
  Fin.ext (by show r.val / 128 * 128 + r.val % 128 = r.val; omega)

/-- Every entry of the new residual stream is written back by some step of the epilogue. -/
theorem covered2_4 (i : S6144x7168.Idx) : ∃ t : Fin cfg2.N, (cfg2.win 4).flush t = true ∧ i ∈ ((cfg2.win 4).blk t).view.set := by
  obtain ⟨r, l, rfl⟩ : ∃ (r : Fin 6144) (l : Fin 7168), i = ix2 r l := ⟨i 0, i 1, (ix2_eta i).symm⟩
  have e := emb2_4 (blk2 r) ⟨r.val % 128, by omega⟩ l
  rw [row2_blk2] at e
  exact ⟨blk2 r, flush2_4 _, e ▸ ((cfg2.win 4).blk (blk2 r)).view.emb_mem_set _⟩

/-- Every entry of the codes is written back by some step of the epilogue. -/
theorem covered2_5 (i : S6144x7168.Idx) : ∃ t : Fin cfg2.N, (cfg2.win 5).flush t = true ∧ i ∈ ((cfg2.win 5).blk t).view.set := by
  obtain ⟨r, l, rfl⟩ : ∃ (r : Fin 6144) (l : Fin 7168), i = ix2 r l := ⟨i 0, i 1, (ix2_eta i).symm⟩
  have e := emb2_5 (blk2 r) ⟨r.val % 128, by omega⟩ l
  rw [row2_blk2] at e
  exact ⟨blk2 r, flush2_5 _, e ▸ ((cfg2.win 5).blk (blk2 r)).view.emb_mem_set _⟩

/-- Every entry of the scales is written back by some step of the epilogue. -/
theorem covered2_6 (i : S6144x56.Idx) : ∃ t : Fin cfg2.N, (cfg2.win 6).flush t = true ∧ i ∈ ((cfg2.win 6).blk t).view.set := by
  obtain ⟨r, l, rfl⟩ : ∃ (r : Fin 6144) (l : Fin 56), i = ix2 r l := ⟨i 0, i 1, (ix2_eta i).symm⟩
  have e := emb2_6 (blk2 r) ⟨r.val % 128, by omega⟩ l
  rw [row2_blk2] at e
  exact ⟨blk2 r, flush2_6 _, e ▸ ((cfg2.win 6).blk (blk2 r)).view.emb_mem_set _⟩

/-- The array of residual rows after the epilogue. -/
theorem final2_4 : (dat2 V c).arrAt 4 cfg2.N = Gh (V c main_v4) (V c main_v1) (V c main_v5) :=
  (dat2 V c).arrAt_eq_of_cover 4 _ (fun t _ => flushed2_4 V c t) covered2_4

/-- The array of codes after the epilogue. -/
theorem final2_5 : (dat2 V c).arrAt 5 cfg2.N = Gc (V c main_v4) (V c main_v1) (V c main_v5) (V c main_v6) :=
  (dat2 V c).arrAt_eq_of_cover 5 _ (fun t _ => flushed2_5 V c t) covered2_5

/-- The array of scales after the epilogue. -/
theorem final2_6 : (dat2 V c).arrAt 6 cfg2.N = Gz (V c main_v4) (V c main_v1) (V c main_v5) (V c main_v6) :=
  (dat2 V c).arrAt_eq_of_cover 6 _ (fun t _ => flushed2_6 V c t) covered2_6

end Cert.Proof.Ker

end
-- ==== Proof.KerRun.lean ====
module

public import proofs.«01_k».proof.Proof.KerQuant
public import proofs.«01_k».proof.Proof.KerProj
public import proofs.«01_k».proof.Proof.KerEpi

/-!
  The whole kernel: what its five results hold at the end, followed through the three calls and the reshapes around them.
-/

@[expose] public section

noncomputable section

namespace Cert.Proof.Ker

open Cert.KernelIdeal Cert.KernelIdeal.Gen Idealize.ShloMosaic Idealize.ShloMosaic.TcCoe

variable (m : (ℓ : Loc nD τ sig) → Buf (Elt Ideal) ℓ) (ρ : Dev nD → PrngReg) (c : Dev nD)

/-! ## The arguments as the calls take them -/

/-- The rows of `x`. -/
def aX : Vec Ideal S6144x18432 .bf16 := shapeCast S6144x18432 (m ((c : Thread nD τ).loc main_arg0)) shapeCasts_S6x1024x18432_S6144x18432
/-- The rows of the residual. -/
def aR : Vec Ideal S6144x7168 .bf16 := shapeCast S6144x7168 (m ((c : Thread nD τ).loc main_arg1)) shapeCasts_S6x1024x7168_S6144x7168
/-- The weights. -/
def aW : Vec Ideal S18432x7168 .fp8e4m3 := m ((c : Thread nD τ).loc main_arg2)
/-- The weights' scales. -/
def aS : Vec Ideal S1x7168 .f32 := shapeCast S1x7168 (m ((c : Thread nD τ).loc main_arg3)) shapeCasts_S7168_S1x7168
/-- The first norm's weights. -/
def aP : Vec Ideal S1x7168 .f32 := shapeCast S1x7168 (m ((c : Thread nD τ).loc main_arg4)) shapeCasts_S7168_S1x7168
/-- The second norm's weights. -/
def aQ : Vec Ideal S1x7168 .f32 := shapeCast S1x7168 (m ((c : Thread nD τ).loc main_arg5)) shapeCasts_S7168_S1x7168
/-- The projection. -/
def aY : Vec Ideal S6144x7168 .f32 := Gy (Gq (aX m c)) (aW m c) (Gs (aX m c)) (aS m c)

/-! ## After the first reshapes and the quantiser -/

/-- After the first reshapes: the rows of `x`. -/
theorem W1_v0 : (W1 m ρ c (Proc.devRef .tc main_v0) : Vec Ideal S6144x18432 .bf16) = aX m c := by
  after_results
  rfl

/-- After the first reshapes: the rows of the residual. -/
theorem W1_v1 : (W1 m ρ c (Proc.devRef .tc main_v1) : Vec Ideal S6144x7168 .bf16) = aR m c := by
  after_results
  rfl

/-- After the quantiser: the codes of `x`. -/
theorem W2_q : (W2 m ρ c (Proc.devRef .tc main_v2_0) : Vec Ideal S6144x18432 .fp8e4m3) = Gq (aX m c) :=
  (W2_arr m ρ c 1).trans ((final0_1 (V1 m ρ) c).trans (congrArg Gq (W1_v0 m ρ c)))

/-- After the quantiser: the scales of `x`. -/
theorem W2_s : (W2 m ρ c (Proc.devRef .tc main_v2_1) : Vec Ideal S6144x1 .f32) = Gs (aX m c) :=
  (W2_arr m ρ c 2).trans ((final0_2 (V1 m ρ) c).trans (congrArg Gs (W1_v0 m ρ c)))

/-- After the quantiser: the rows of the residual. -/
theorem W2_v1 : (W2 m ρ c (Proc.devRef .tc main_v1) : Vec Ideal S6144x7168 .bf16) = aR m c :=
  (W2_of m ρ c main_v1 (by decide +kernel)).trans (W1_v1 m ρ c)

/-! ## After the projection -/

/-- Before the projection: the weights' scales. -/
theorem W3_v3 : (W3 m ρ c (Proc.devRef .tc main_v3) : Vec Ideal S1x7168 .f32) = aS m c := by
  after_results
  rw [W2_args m ρ c main_arg3 (by decide)]
  rfl

/-- After the projection: the projection. -/
theorem W4_y : (W4 m ρ c (Proc.devRef .tc main_v4) : Vec Ideal S6144x7168 .f32) = aY m c := by
  refine (W4_arr m ρ c 4).trans ((final1_4 (V3 m ρ) c).trans ?_)
  have e0 : (V3 m ρ c main_v2_0 : Vec Ideal S6144x18432 .fp8e4m3) = Gq (aX m c) := (W3_of m ρ c main_v2_0 (by decide)).trans (W2_q m ρ c)
  have e1 : (V3 m ρ c main_v2_1 : Vec Ideal S6144x1 .f32) = Gs (aX m c) := (W3_of m ρ c main_v2_1 (by decide)).trans (W2_s m ρ c)
  have e2 : (V3 m ρ c main_arg2 : Vec Ideal S18432x7168 .fp8e4m3) = aW m c := W3_args m ρ c main_arg2 (by decide)
  have e3 : (V3 m ρ c main_v3 : Vec Ideal S1x7168 .f32) = aS m c := W3_v3 m ρ c
  rw [e0, e1, e2, e3]
  rfl

/-- After the projection: the codes of `x`. -/
theorem W4_q : (W4 m ρ c (Proc.devRef .tc main_v2_0) : Vec Ideal S6144x18432 .fp8e4m3) = Gq (aX m c) :=
  (W4_of m ρ c main_v2_0 (by decide +kernel)).trans ((W3_of m ρ c main_v2_0 (by decide)).trans (W2_q m ρ c))

/-- After the projection: the scales of `x`. -/
theorem W4_s : (W4 m ρ c (Proc.devRef .tc main_v2_1) : Vec Ideal S6144x1 .f32) = Gs (aX m c) :=
  (W4_of m ρ c main_v2_1 (by decide +kernel)).trans ((W3_of m ρ c main_v2_1 (by decide)).trans (W2_s m ρ c))

/-- After the projection: the rows of the residual. -/
theorem W4_v1 : (W4 m ρ c (Proc.devRef .tc main_v1) : Vec Ideal S6144x7168 .bf16) = aR m c :=
  (W4_of m ρ c main_v1 (by decide +kernel)).trans ((W3_of m ρ c main_v1 (by decide)).trans (W2_v1 m ρ c))

/-! ## After the epilogue -/

/-- Before the epilogue: the first norm's weights. -/
theorem W5_v5 : (V5 m ρ c main_v5 : Vec Ideal S1x7168 .f32) = aP m c := by
  show (W5 m ρ c (Proc.devRef .tc main_v5) : Vec Ideal S1x7168 .f32) = aP m c
  after_results
  rw [W4_args m ρ c main_arg4 (by decide)]
  rfl

/-- Before the epilogue: the second norm's weights. -/
theorem W5_v6 : (V5 m ρ c main_v6 : Vec Ideal S1x7168 .f32) = aQ m c := by
  show (W5 m ρ c (Proc.devRef .tc main_v6) : Vec Ideal S1x7168 .f32) = aQ m c
  after_results
  rw [W4_args m ρ c main_arg5 (by decide)]
  rfl

/-- Before the epilogue: the projection. -/
theorem W5_y : (V5 m ρ c main_v4 : Vec Ideal S6144x7168 .f32) = aY m c := (W5_of m ρ c main_v4 (by decide)).trans (W4_y m ρ c)

/-- Before the epilogue: the rows of the residual. -/
theorem W5_v1 : (V5 m ρ c main_v1 : Vec Ideal S6144x7168 .bf16) = aR m c := (W5_of m ρ c main_v1 (by decide)).trans (W4_v1 m ρ c)

/-- After the epilogue: the new residual stream. -/
theorem W6_h : (W6 m ρ c (Proc.devRef .tc main_v7_0) : Vec Ideal S6144x7168 .bf16) = Gh (aY m c) (aR m c) (aP m c) := by
  refine (W6_arr m ρ c 4).trans ((final2_4 (V5 m ρ) c).trans ?_)
  rw [W5_y, W5_v1, W5_v5]

/-- After the epilogue: the codes of the normed rows. -/
theorem W6_c : (W6 m ρ c (Proc.devRef .tc main_v7_1) : Vec Ideal S6144x7168 .fp8e4m3) = Gc (aY m c) (aR m c) (aP m c) (aQ m c) := by
  refine (W6_arr m ρ c 5).trans ((final2_5 (V5 m ρ) c).trans ?_)
  rw [W5_y, W5_v1, W5_v5, W5_v6]

/-- After the epilogue: the scales of the normed rows. -/
theorem W6_z : (W6 m ρ c (Proc.devRef .tc main_v7_2) : Vec Ideal S6144x56 .f32) = Gz (aY m c) (aR m c) (aP m c) (aQ m c) := by
  refine (W6_arr m ρ c 6).trans ((final2_6 (V5 m ρ) c).trans ?_)
  rw [W5_y, W5_v1, W5_v5, W5_v6]

/-- After the epilogue: the codes of `x`. -/
theorem W6_q : (W6 m ρ c (Proc.devRef .tc main_v2_0) : Vec Ideal S6144x18432 .fp8e4m3) = Gq (aX m c) :=
  (W6_of m ρ c main_v2_0 (by decide +kernel)).trans ((W5_of m ρ c main_v2_0 (by decide)).trans (W4_q m ρ c))

/-- After the epilogue: the scales of `x`. -/
theorem W6_s : (W6 m ρ c (Proc.devRef .tc main_v2_1) : Vec Ideal S6144x1 .f32) = Gs (aX m c) :=
  (W6_of m ρ c main_v2_1 (by decide +kernel)).trans ((W5_of m ρ c main_v2_1 (by decide)).trans (W4_s m ρ c))

/-! ## The results -/

/-- The first result: the residual rows. -/
theorem W7_h : (W7 m ρ c (Proc.devRef .tc main_v8) : Vec Ideal S6x1024x7168 .bf16)
    = shapeCast S6x1024x7168 (Gh (aY m c) (aR m c) (aP m c)) shapeCasts_S6144x7168_S6x1024x7168 := by
  after_results
  rw [W6_h]
  rfl

/-- The second result: the codes of `x`. -/
theorem W7_q : (W7 m ρ c (Proc.devRef .tc main_v9) : Vec Ideal S6x1024x18432 .fp8e4m3)
    = shapeCast S6x1024x18432 (Gq (aX m c)) shapeCasts_S6144x18432_S6x1024x18432 := by
  after_results
  rw [W6_q]
  rfl

/-- The third result: the scales of `x`. -/
theorem W7_s : (W7 m ρ c (Proc.devRef .tc main_v10) : Vec Ideal S6x1024x1 .f32)
    = shapeCast S6x1024x1 (Gs (aX m c)) shapeCasts_S6144x1_S6x1024x1 := by
  after_results
  rw [W6_s]
  rfl

/-- The fourth result: the codes of the normed rows. -/
theorem W7_c : (W7 m ρ c (Proc.devRef .tc main_v11) : Vec Ideal S6x1024x7168 .fp8e4m3)
    = shapeCast S6x1024x7168 (Gc (aY m c) (aR m c) (aP m c) (aQ m c)) shapeCasts_S6144x7168_S6x1024x7168 := by
  after_results
  rw [W6_c]
  rfl

/-- The fifth result: the scales of the normed rows. -/
theorem W7_z : (W7 m ρ c (Proc.devRef .tc main_v12) : Vec Ideal S6x1024x56 .f32)
    = shapeCast S6x1024x56 (Gz (aY m c) (aR m c) (aP m c) (aQ m c)) shapeCasts_S6144x56_S6x1024x56 := by
  after_results
  rw [W6_z]
  rfl

end Cert.Proof.Ker

end
-- ==== Proof.Layout.lean ====
module

public import proofs.«01_k».proof.Proof.KerRead

/-!
  The reshapes around the calls: batch `b` and position `s` are row `1024 b + s`.
-/

@[expose] public section

noncomputable section

namespace Cert.Proof.Ker

open Cert.KernelIdeal Cert.KernelIdeal.Gen Idealize.ShloMosaic

/-- The row of a batch and a position. -/
def rowOf (b : Fin 6) (s : Fin 1024) : Fin 6144 := ⟨b.val * 1024 + s.val, by omega⟩

/-- An entry of the rows of `x`. -/
theorem rowsX {α : Type} (x : S6x1024x18432.Idx → α) (h : S6x1024x18432.ShapeCasts S6144x18432) (b : Fin 6) (s : Fin 1024) (l : Fin 18432) :
    shapeCast S6144x18432 x h (ix2 (rowOf b s) l) = x (ix3 b s l) := by
  unfold rowOf; pointwise

/-- An entry of the rows of the residual. -/
theorem rowsR {α : Type} (x : S6x1024x7168.Idx → α) (h : S6x1024x7168.ShapeCasts S6144x7168) (b : Fin 6) (s : Fin 1024) (l : Fin 7168) :
    shapeCast S6144x7168 x h (ix2 (rowOf b s) l) = x (ix3 b s l) := by
  unfold rowOf; pointwise

/-- An entry of a vector laid out as one row. -/
theorem one7168 {α : Type} (x : S7168.Idx → α) (h : S7168.ShapeCasts S1x7168) (l : Fin 7168) :
    shapeCast S1x7168 x h (ix2 0 l) = x (ix1 l) := by
  pointwise

/-- An entry of a result of rows of 18432 laid out by batch and position. -/
theorem back18432 {α : Type} (x : S6144x18432.Idx → α) (h : S6144x18432.ShapeCasts S6x1024x18432) (b : Fin 6) (s : Fin 1024) (l : Fin 18432) :
    shapeCast S6x1024x18432 x h (ix3 b s l) = x (ix2 (rowOf b s) l) := by
  unfold rowOf; pointwise

/-- An entry of a result of rows of 7168 laid out by batch and position. -/
theorem back7168 {α : Type} (x : S6144x7168.Idx → α) (h : S6144x7168.ShapeCasts S6x1024x7168) (b : Fin 6) (s : Fin 1024) (l : Fin 7168) :
    shapeCast S6x1024x7168 x h (ix3 b s l) = x (ix2 (rowOf b s) l) := by
  unfold rowOf; pointwise

/-- An entry of a result of rows of 56 laid out by batch and position. -/
theorem back56 {α : Type} (x : S6144x56.Idx → α) (h : S6144x56.ShapeCasts S6x1024x56) (b : Fin 6) (s : Fin 1024) (l : Fin 56) :
    shapeCast S6x1024x56 x h (ix3 b s l) = x (ix2 (rowOf b s) l) := by
  unfold rowOf; pointwise

/-- An entry of a result of rows of 1 laid out by batch and position. -/
theorem back1 {α : Type} (x : S6144x1.Idx → α) (h : S6144x1.ShapeCasts S6x1024x1) (b : Fin 6) (s : Fin 1024) (l : Fin 1) :
    shapeCast S6x1024x1 x h (ix3 b s l) = x (ix2 (rowOf b s) 0) := by
  unfold rowOf; obtain rfl : l = 0 := Subsingleton.elim _ _; pointwise

end Cert.Proof.Ker

end
-- ==== Proof.RefRead.lean ====
module

public import proofs.«01_k».proof.Proof.Gen.ReferenceIdeal.Value
public import proofs.«01_k».proof.Proof.Model
public import Idealize.ShloMosaic.Lib.Pointwise

/-!
  The reference's operations read at an index: each lemma takes one stretch of its vector operations on arbitrary operands.
-/

@[expose] public section

noncomputable section

namespace Cert.Proof.Ref

open Cert.ReferenceIdeal Cert.ReferenceIdeal.Gen Idealize.ShloMosaic

/-- The constant named `ln2` is the logarithm of 2. -/
theorem ln2_eq : (Named.named κ "ln2" 1060205080#32 : Ideal .f32) = ((Real.log 2 : ℝ) : EReal) :=
  IdealRules.named_const.ideal_named_scalar _ _ _ _ rfl

/-- The word of 7168. -/
theorem ofBits_7168 : (Ideal.ofBits .f32 0x45E00000#32 : EReal) = ((7168 : ℝ) : EReal) := by
  simp [Ideal.ofBits, Ideal.ieee, -EReal.coe_mul]; norm_num

/-- A product, entry by entry. -/
theorem mulf_at {s : Shape} (a b : FVec Ideal s .f32) (i : s.Idx) : mulf a b i = (a i : EReal) * b i := rfl

/-- A power of two, entry by entry. -/
theorem exp2_at {s : Shape} (a : FVec Ideal s .f32) (i : s.Idx) : exp2 a i = Ideal.exp2 (a i) := rfl

/-- The maximum along a row of 18432. -/
theorem rowMax_at (v : FVec Ideal S6x1024x18432 .f32) (b : Fin 6) (s : Fin 1024) (i : Fin 1) :
    shapeCast S6x1024x1 (multiReduction .maximumf [2] S6x1024 v 0xFF800000#32 reduces_S6x1024x18432_S6x1024 (.inl rfl) rfl)
      shapeCasts_S6x1024_S6x1024x1 (ix3 b s i)
      = Finset.fold max (Ideal.ofBits .f32 4286578688#32) (fun l : Fin 18432 => v (ix3 b s l)) Finset.univ := by
  pointwise

/-- A row's absolute maximum over 448. -/
theorem t_at (v : FVec Ideal S6x1024x18432 .f32) (b : Fin 6) (s : Fin 1024) (i : Fin 1) :
    mulf (shapeCast S6x1024x1 (multiReduction .maximumf [2] S6x1024 (absf v) 0xFF800000#32 reduces_S6x1024x18432_S6x1024 (.inl rfl) rfl)
      shapeCasts_S6x1024_S6x1024x1) (broadcast S6x1024x1 (Scalar.ofBits .f32 0x3B124925#32)) (ix3 b s i)
      = tOf fun l : Fin 18432 => v (ix3 b s l) := by
  rw [mulf_at, rowMax_at]
  unfold tOf amax c448
  rw [← ofBits_bot_f32]
  rfl

/-- The exponent of `t`, at any shape. -/
theorem rexp_at {S : Shape} (t : FVec Ideal S .f32) (i : S.Idx) :
    select (cmpf .olt t (broadcast S (Scalar.ofBits .f32 0x00800000#32))) (broadcast S (Scalar.ofBits .f32 0x00000000#32))
      (addf (floor (divf (log t) (broadcast S (Named.named κ "ln2" (0x3F317218#32 : BitVec (FTy.f32).bits) : Ideal .f32))))
        (broadcast S (Scalar.ofBits .f32 0x3F800000#32))) i = rexp (t i) := by
  pointwise
  rw [ln2_eq]
  rfl

/-- The codes from the exponents. -/
theorem codes_at (v : FVec Ideal S6x1024x18432 .f32) (u : FVec Ideal S6x1024x1 .f32) (b : Fin 6) (s : Fin 1024) (l : Fin 18432) :
    truncf .fp8e4m3 (minimumf (broadcast S6x1024x18432 (Scalar.ofBits .f32 0x43E00000#32))
      (maximumf (broadcast S6x1024x18432 (Scalar.ofBits .f32 0xC3E00000#32))
        (mulf v (broadcastTo S6x1024x18432 (exp2 (subf (broadcast S6x1024x1 (Scalar.ofBits .f32 0x00000000#32)) u))
          broadcasts_S6x1024x1_S6x1024x18432)))) bitsLt_fp8e4m3_f32 (ix3 b s l)
      = clip448 (v (ix3 b s l) * Ideal.exp2 (0 - u (ix3 b s 0))) := by
  pointwise
  rfl

/-- The scaled product. -/
theorem prod_at (q : FVec Ideal S6x1024x18432 .fp8e4m3) (w : FVec Ideal S18432x7168 .fp8e4m3) (xs : FVec Ideal S6x1024x1 .f32)
    (ws : FVec Ideal S7168 .f32) (b : Fin 6) (s : Fin 1024) (j : Fin 7168) :
    mulf (mulf (matmul dot_S6x1024x18432_S18432x7168_S6x1024x7168_2_0_01_1_n_n none q w (constant S6x1024x7168 .f32 0x00000000#32))
      (broadcastTo S6x1024x7168 xs broadcasts_S6x1024x1_S6x1024x7168))
      (broadcastTo S6x1024x7168 (shapeCast S1x1x7168 ws shapeCasts_S7168_S1x1x7168) broadcasts_S1x1x7168_S6x1024x7168) (ix3 b s j)
      = yOf (fun k : Fin 18432 => q (ix3 b s k)) (fun k => w (ix2 k j)) (xs (ix3 b s 0)) (ws (ix1 j)) := by
  pointwise
  rfl

/-- The sum of a row's entries. -/
theorem rowSum_at (v : FVec Ideal S6x1024x7168 .f32) (b : Fin 6) (s : Fin 1024) (i : Fin 1) :
    shapeCast S6x1024x1 (multiReduction .add [2] S6x1024 v 0x00000000#32 reduces_S6x1024x7168_S6x1024 (.inl rfl) rfl)
      shapeCasts_S6x1024_S6x1024x1 (ix3 b s i) = ∑ l : Fin 7168, v (ix3 b s l) := by
  pointwise

/-- A row over the root of its mean square, times `1 + g`. -/
theorem normed_at (y : FVec Ideal S6x1024x7168 .f32) (t : FVec Ideal S6x1024x1 .f32) (g : FVec Ideal S7168 .f32)
    (b : Fin 6) (s : Fin 1024) (j : Fin 7168) :
    mulf (mulf y (broadcastTo S6x1024x7168 (rsqrt (addf (divf t (broadcast S6x1024x1 (Scalar.ofBits .f32 0x45E00000#32)))
        (broadcast S6x1024x1 (Scalar.ofBits .f32 0x358637BD#32)))) broadcasts_S6x1024x1_S6x1024x7168))
      (broadcastTo S6x1024x7168 (shapeCast S1x1x7168 (addf (broadcast S7168 (Scalar.ofBits .f32 0x3F800000#32)) g)
        shapeCasts_S7168_S1x1x7168) broadcasts_S1x1x7168_S6x1024x7168) (ix3 b s j)
      = y (ix3 b s j) * Ideal.rsqrt (Ideal.div (t (ix3 b s 0)) (Ideal.ofBits .f32 0x45E00000#32) + eps) * (1 + g (ix1 j)) := by
  pointwise
  rfl

/-- The root of a row's mean square, the sum divided by 7168. -/
theorem rms_div {n : ℕ} (y : Fin n → EReal) :
    Ideal.rsqrt (Ideal.div (sumsq y) (Ideal.ofBits .f32 0x45E00000#32) + eps) = rms y := by
  unfold rms
  rw [ofBits_7168, Ideal.div_coe (by norm_num)]

/-- A row of 7168 read as 56 groups of 128. -/
theorem split_at (z : FVec Ideal S6x1024x7168 .f32) (b : Fin 6) (s : Fin 1024) (g : Fin 56) (l : Fin 128) :
    shapeCast S6x1024x56x128 z shapeCasts_S6x1024x7168_S6x1024x56x128 (ix4 b s g l)
      = grp (fun j => z (ix3 b s j)) g l := by
  pointwise
  rfl

/-- The 56 groups of 128 read as a row of 7168. -/
theorem join_at (z : FVec Ideal S6x1024x56x128 .fp8e4m3) (b : Fin 6) (s : Fin 1024) (j : Fin 7168) :
    shapeCast S6x1024x7168 z shapeCasts_S6x1024x56x128_S6x1024x7168 (ix3 b s j) = z (ix4 b s (grpOf j) (inGrp j)) := by
  pointwise
  rfl

/-- The maximum of a group. -/
theorem grpMax_at (v : FVec Ideal S6x1024x56x128 .f32) (b : Fin 6) (s : Fin 1024) (g : Fin 56) (i : Fin 1) :
    shapeCast S6x1024x56x1 (multiReduction .maximumf [3] S6x1024x56 v 0xFF800000#32 reduces_S6x1024x56x128_S6x1024x56 (.inl rfl) rfl)
      shapeCasts_S6x1024x56_S6x1024x56x1 (ix4 b s g i)
      = Finset.fold max (Ideal.ofBits .f32 4286578688#32) (fun l : Fin 128 => v (ix4 b s g l)) Finset.univ := by
  pointwise

/-- A group's absolute maximum over 448. -/
theorem tg_at (v : FVec Ideal S6x1024x56x128 .f32) (b : Fin 6) (s : Fin 1024) (g : Fin 56) (i : Fin 1) :
    mulf (shapeCast S6x1024x56x1 (multiReduction .maximumf [3] S6x1024x56 (absf v) 0xFF800000#32 reduces_S6x1024x56x128_S6x1024x56 (.inl rfl) rfl)
      shapeCasts_S6x1024x56_S6x1024x56x1) (broadcast S6x1024x56x1 (Scalar.ofBits .f32 0x3B124925#32)) (ix4 b s g i)
      = tOf fun l : Fin 128 => v (ix4 b s g l) := by
  rw [mulf_at, grpMax_at]
  unfold tOf amax c448
  rw [← ofBits_bot_f32]
  rfl

/-- The group codes from the exponents. -/
theorem gcodes_at (v : FVec Ideal S6x1024x56x128 .f32) (u : FVec Ideal S6x1024x56x1 .f32) (b : Fin 6) (s : Fin 1024) (g : Fin 56) (l : Fin 128) :
    truncf .fp8e4m3 (minimumf (broadcast S6x1024x56x128 (Scalar.ofBits .f32 0x43E00000#32))
      (maximumf (broadcast S6x1024x56x128 (Scalar.ofBits .f32 0xC3E00000#32))
        (mulf v (broadcastTo S6x1024x56x128 (exp2 (subf (broadcast S6x1024x56x1 (Scalar.ofBits .f32 0x00000000#32)) u))
          broadcasts_S6x1024x56x1_S6x1024x56x128)))) bitsLt_fp8e4m3_f32 (ix4 b s g l)
      = clip448 (v (ix4 b s g l) * Ideal.exp2 (0 - u (ix4 b s g 0))) := by
  pointwise
  rfl

/-- The group scales, their last axis dropped. -/
theorem drop_at (u : FVec Ideal S6x1024x56x1 .f32) (b : Fin 6) (s : Fin 1024) (g : Fin 56) :
    shapeCast S6x1024x56 u shapeCasts_S6x1024x56x1_S6x1024x56 (ix3 b s g) = u (ix4 b s g 0) := by
  pointwise

end Cert.Proof.Ref

end
-- ==== Proof.RefValue.lean ====
module

public import proofs.«01_k».proof.Proof.RefRead

/-!
  The reference's five results as functions of its arguments: row `(b, s)` of each, from the rows of the arguments.
-/

@[expose] public section

noncomputable section

namespace Cert.Proof.Ref

open Cert.ReferenceIdeal Cert.ReferenceIdeal.Gen Idealize.ShloMosaic
open Cert.ReferenceIdeal.Value (G6 G7 G8 G9 G10)

/-- Row `(b, s)` of `x`. -/
def xr (x : Vec Ideal S6x1024x18432 .bf16) (b : Fin 6) (s : Fin 1024) (l : Fin 18432) : EReal := x (ix3 b s l)

/-- Row `(b, s)` of the projection. -/
def yr (x : Vec Ideal S6x1024x18432 .bf16) (w : Vec Ideal S18432x7168 .fp8e4m3) (ws : Vec Ideal S7168 .f32) (b : Fin 6) (s : Fin 1024) :
    Fin 7168 → EReal :=
  yRow (codeOf (xr x b s)) (scaleOf (xr x b s)) (fun k j => w (ix2 k j)) (fun j => ws (ix1 j))

/-- Row `(b, s)` of the new residual stream. -/
def hr (x : Vec Ideal S6x1024x18432 .bf16) (r : Vec Ideal S6x1024x7168 .bf16) (w : Vec Ideal S18432x7168 .fp8e4m3)
    (ws gp : Vec Ideal S7168 .f32) (b : Fin 6) (s : Fin 1024) : Fin 7168 → EReal :=
  hRow (yr x w ws b s) (fun j => gp (ix1 j)) (fun j => r (ix3 b s j))

/-- Row `(b, s)` of the normed residual stream. -/
def zr (x : Vec Ideal S6x1024x18432 .bf16) (r : Vec Ideal S6x1024x7168 .bf16) (w : Vec Ideal S18432x7168 .fp8e4m3)
    (ws gp gq : Vec Ideal S7168 .f32) (b : Fin 6) (s : Fin 1024) : Fin 7168 → EReal :=
  normed (hr x r w ws gp b s) (fun j => gq (ix1 j))

variable (x : Vec Ideal S6x1024x18432 .bf16) (r : Vec Ideal S6x1024x7168 .bf16) (w : Vec Ideal S18432x7168 .fp8e4m3)
  (ws gp gq : Vec Ideal S7168 .f32) (b : Fin 6) (s : Fin 1024)

/-- The exponent of a row of `x`. -/
theorem pay5_at (i : Fin 1) : k0_pay5 (F := Ideal) x (ix3 b s i) = rexp (tOf (xr x b s)) := by
  unfold k0_pay5
  rw [rexp_at, t_at]
  rfl

/-- The scale of a row of `x`. -/
theorem pay7_at (i : Fin 1) : k0_pay7 (F := Ideal) x (ix3 b s i) = scaleOf (xr x b s) := by
  unfold k0_pay7 scaleOf
  rw [exp2_at, pay5_at]

/-- The codes of a row of `x`. -/
theorem pay6_at (l : Fin 18432) : k0_pay6 (F := Ideal) x (ix3 b s l) = codeOf (xr x b s) l := by
  unfold k0_pay6 codeOf
  rw [codes_at, pay5_at]
  rfl

/-- A row of the projection. -/
theorem pay8_at (j : Fin 7168) : k0_pay8 (F := Ideal) x w ws (ix3 b s j) = yr x w ws b s j := by
  unfold k0_pay8
  rw [prod_at, pay7_at]
  simp only [pay6_at]
  rfl

/-- The sum of the squares of a row of the projection. -/
theorem pay9_at (i : Fin 1) : k0_pay9 (F := Ideal) x w ws (ix3 b s i) = sumsq (yr x w ws b s) := by
  unfold k0_pay9 sumsq
  rw [rowSum_at]
  simp only [mulf_at, pay8_at]

/-- A row of the new residual stream, from any projection and any sum of squares that are the model's. -/
theorem pay11_at (y : FVec Ideal S6x1024x7168 .f32) (t : FVec Ideal S6x1024x1 .f32) (yv : Fin 7168 → EReal)
    (hy : ∀ j, y (ix3 b s j) = yv j) (ht : t (ix3 b s 0) = sumsq yv) (j : Fin 7168) :
    k0_pay11 (F := Ideal) y gp t (k0_pay10 (F := Ideal)) r (ix3 b s j) = hRow yv (fun j => gp (ix1 j)) (fun j => r (ix3 b s j)) j := by
  unfold k0_pay11 k0_pay10
  have h := normed_at y t gp b s j
  rw [ht, rms_div, hy] at h
  exact congrArg (fun v : EReal => v + r (ix3 b s j)) h

/-- A row of the normed residual stream, grouped. -/
theorem pay12_at (y : FVec Ideal S6x1024x7168 .f32) (t : FVec Ideal S6x1024x1 .f32) (yv : Fin 7168 → EReal)
    (hy : ∀ j, y (ix3 b s j) = yv j) (ht : t (ix3 b s 0) = sumsq yv) (g : Fin 56) (l : Fin 128) :
    k0_pay12 (F := Ideal) y gp t (k0_pay10 (F := Ideal)) r gq (ix4 b s g l)
      = grp (normed (hRow yv (fun j => gp (ix1 j)) (fun j => r (ix3 b s j))) (fun j => gq (ix1 j))) g l := by
  unfold k0_pay12
  rw [split_at]
  congr 1
  funext j
  rw [normed_at, rowSum_at]
  have e : ∀ j, extf (F := Ideal) .f32 (k0_pay11 (F := Ideal) y gp t (k0_pay10 (F := Ideal)) r) bitsLt_bf16_f32 (ix3 b s j)
      = hRow yv (fun j => gp (ix1 j)) (fun j => r (ix3 b s j)) j := fun j => pay11_at r gp b s y t yv hy ht j
  simp only [mulf_at, e]
  unfold normed
  rw [← rms_div]
  rfl

/-- The whole-array load of an argument of the shape of x is the argument. -/
theorem ld0 : View.ld x r0_0 = x := View.ld_unit_zero (S := S6x1024x18432) Value.hz0 _ x
/-- The whole-array load of an argument of the shape of the residual is the argument. -/
theorem ld1 : View.ld r r0_3 = r := View.ld_unit_zero (S := S6x1024x7168) Value.hz1 _ r
/-- The whole-array load of an argument of the shape of the weights is the argument. -/
theorem ld2 : View.ld w r0_1 = w := View.ld_unit_zero (S := S18432x7168) Value.hz2 _ w
/-- The whole-array load of an argument of the shape of the weights' scales is the argument. -/
theorem ld3 : View.ld ws r0_2 = ws := View.ld_unit_zero (S := S7168) Value.hz3 _ ws

/-- Result 1, the new residual stream. -/
theorem G6_at (j : Fin 7168) : G6 (F := Ideal) x r w ws gp gq (ix3 b s j) = hr x r w ws gp b s j := by
  unfold G6 k0_pay16 k0_pay17 k0_pay18
  rw [ld0, ld2, ld3]
  exact pay11_at r gp b s _ _ _ (pay8_at x w ws b s) (pay9_at x w ws b s 0) j

/-- Result 2, the codes of `x`. -/
theorem G7_at (l : Fin 18432) : G7 (F := Ideal) x r w ws gp gq (ix3 b s l) = codeOf (xr x b s) l := pay6_at x b s l

/-- Result 3, the scales of `x`. -/
theorem G8_at (i : Fin 1) : G8 (F := Ideal) x r w ws gp gq (ix3 b s i) = scaleOf (xr x b s) := pay7_at x b s i

/-- The normed residual stream, grouped. -/
theorem z_at (g : Fin 56) (l : Fin 128) :
    k0_pay12 (F := Ideal) (k0_pay16 x r w ws gp gq) gp (k0_pay17 x r w ws gp gq) (k0_pay18 x r w ws gp gq) r gq (ix4 b s g l)
      = grp (zr x r w ws gp gq b s) g l := by
  unfold k0_pay16 k0_pay17 k0_pay18
  rw [ld0, ld2, ld3]
  exact pay12_at r gp gq b s _ _ _ (pay8_at x w ws b s) (pay9_at x w ws b s 0) g l

/-- A group's absolute maximum over 448. -/
theorem pay19_at (g : Fin 56) (i : Fin 1) :
    k0_pay19 (F := Ideal) x r w ws gp gq (ix4 b s g i) = tOf (grp (zr x r w ws gp gq b s) g) := by
  unfold k0_pay19 k0_pay13
  rw [ld1, ld3, ld3, tg_at]
  simp only [z_at]

/-- A group's exponent. -/
theorem pay1_at (g : Fin 56) (i : Fin 1) :
    k0_pay1 (F := Ideal) (k0_pay19 x r w ws gp gq) (k0_pay20 x r w ws gp gq) (k0_pay21 x r w ws gp gq) (ix4 b s g i)
      = rexp (tOf (grp (zr x r w ws gp gq b s) g)) := by
  rw [← pay19_at x r w ws gp gq b s g i]
  exact rexp_at (k0_pay19 (F := Ideal) x r w ws gp gq) (ix4 b s g i)

/-- Result 4, the codes of the normed residual stream. -/
theorem G9_at (j : Fin 7168) :
    G9 (F := Ideal) x r w ws gp gq (ix3 b s j) = codeOf (grp (zr x r w ws gp gq b s) (grpOf j)) (inGrp j) := by
  unfold G9 k0_pay2
  rw [join_at, gcodes_at, pay1_at, z_at]
  rfl

/-- Result 5, the scales of the normed residual stream. -/
theorem G10_at (g : Fin 56) :
    G10 (F := Ideal) x r w ws gp gq (ix3 b s g) = scaleOf (grp (zr x r w ws gp gq b s) g) := by
  unfold G10 k0_pay3
  rw [drop_at, exp2_at, pay1_at]
  rfl

end Cert.Proof.Ref

end
-- ==== Proof.Equation.lean ====
module

public import proofs.«01_k».proof.Proof.KerRun
public import proofs.«01_k».proof.Proof.Layout
public import proofs.«01_k».proof.Proof.RefValue

/-!
  The kernel's five results are the reference's, where `x` and the second norm's weights are bounded.
-/

@[expose] public section

noncomputable section

namespace Cert.Proof.Ker

open Cert.KernelIdeal Cert.KernelIdeal.Gen Idealize.ShloMosaic Cert.Proof.Ref

variable (x : Vec Ideal S6x1024x18432 .bf16) (r : Vec Ideal S6x1024x7168 .bf16) (w : Vec Ideal S18432x7168 .fp8e4m3)
  (ws gp gq : Vec Ideal S7168 .f32) (b : Fin 6) (s : Fin 1024)

/-- The rows of `x`. -/
abbrev fX : Vec Ideal S6144x18432 .bf16 := shapeCast S6144x18432 x shapeCasts_S6x1024x18432_S6144x18432
/-- The rows of the residual. -/
abbrev fR : Vec Ideal S6144x7168 .bf16 := shapeCast S6144x7168 r shapeCasts_S6x1024x7168_S6144x7168
/-- A vector of 7168 values as one row. -/
abbrev fV (g : Vec Ideal S7168 .f32) : Vec Ideal S1x7168 .f32 := shapeCast S1x7168 g shapeCasts_S7168_S1x7168
/-- The projection. -/
abbrev fY : Vec Ideal S6144x7168 .f32 := Gy (Gq (fX x)) w (Gs (fX x)) (fV ws)

/-- A row of `x`. -/
theorem x_row : (fun l : Fin 18432 => fX x (ix2 (rowOf b s) l)) = xr x b s := funext fun l => rowsX x _ b s l

/-- An entry of a vector laid out as one row. -/
theorem v_at (g : Vec Ideal S7168 .f32) (j : Fin 7168) : fV g (ix2 0 j) = g (ix1 j) := one7168 g _ j

/-- A vector laid out as one row. -/
theorem v_row (g : Vec Ideal S7168 .f32) : (fun j : Fin 7168 => fV g (ix2 0 j)) = fun j => g (ix1 j) := funext (v_at g)

/-- Every value of `x` is at most `85 · 2 ^ 128` in absolute value. -/
abbrev BoundX : Prop := ∀ i, max (x i : EReal) (-(x i)) ≤ ((85 * 2 ^ 128 : ℝ) : EReal)

/-- Every weight of the second norm is at most the largest f32 in absolute value. -/
abbrev BoundG : Prop := ∀ i, max (gq i : EReal) (-(gq i)) ≤ ((340282346638528859811704183484516925440 : ℝ) : EReal)

variable {x} (hx : BoundX x) {gq} (hg : BoundG gq)

include hx

/-- The kernel's codes of a row of `x` are the reference's. -/
theorem q_at (l : Fin 18432) : Gq (fX x) (ix2 (rowOf b s) l) = codeOf (xr x b s) l := by
  show kcodeOf (fun l : Fin 18432 => fX x (ix2 (rowOf b s) l)) l = _
  rw [x_row, (kscaleOf_eq (by decide) (xr x b s) fun i => hx _).2]

/-- The kernel's scale of a row of `x` is the reference's. -/
theorem s_at (i : Fin 1) : Gs (fX x) (ix2 (rowOf b s) i) = scaleOf (xr x b s) := by
  show kscaleOf (fun l : Fin 18432 => fX x (ix2 (rowOf b s) l)) = _
  rw [x_row, (kscaleOf_eq (by decide) (xr x b s) fun i => hx _).1]

/-- A row of the projection. -/
theorem y_at (j : Fin 7168) : fY x w ws (ix2 (rowOf b s) j) = yr x w ws b s j := by
  show yOf (fun k : Fin 18432 => Gq (fX x) (ix2 (rowOf b s) k)) (fun k => w (ix2 k j)) (Gs (fX x) (ix2 (rowOf b s) 0)) (fV ws (ix2 0 j)) = _
  rw [s_at b s hx, v_at]
  simp only [q_at b s hx]
  rfl

/-- A row of the new residual stream. -/
theorem h_row : hAll (fY x w ws) (fR r) (fV gp) (rowOf b s) = hr x r w ws gp b s := by
  have e1 : (fun j => fY x w ws (ix2 (rowOf b s) j)) = yr x w ws b s := funext fun j => y_at w ws b s hx j
  have e3 : (fun j => fR r (ix2 (rowOf b s) j)) = fun j => r (ix3 b s j) := funext fun j => rowsR r _ b s j
  unfold hAll hr
  rw [e1, e3, v_row]

/-- A row of the normed residual stream. -/
theorem z_row : zAll (fY x w ws) (fR r) (fV gp) (fV gq) (rowOf b s) = zr x r w ws gp gq b s := by
  unfold zAll zr
  rw [h_row r w ws gp b s hx, v_row]

/-- RESULT 1: the new residual stream. -/
theorem result1 : (shapeCast S6x1024x7168 (Gh (fY x w ws) (fR r) (fV gp)) shapeCasts_S6144x7168_S6x1024x7168 : Vec Ideal S6x1024x7168 .bf16)
    = Cert.ReferenceIdeal.Value.G6 (F := Ideal) x r w ws gp gq := by
  funext i
  obtain ⟨b, s, j, rfl⟩ : ∃ (b : Fin 6) (s : Fin 1024) (j : Fin 7168), i = ix3 b s j := ⟨i 0, i 1, i 2, eq_ix3 i⟩
  rw [back7168]
  exact (congrFun (h_row r w ws gp b s hx) j).trans (G6_at x r w ws gp gq b s j).symm

/-- RESULT 2: the codes of `x`. -/
theorem result2 : (shapeCast S6x1024x18432 (Gq (fX x)) shapeCasts_S6144x18432_S6x1024x18432 : Vec Ideal S6x1024x18432 .fp8e4m3)
    = Cert.ReferenceIdeal.Value.G7 (F := Ideal) x r w ws gp gq := by
  funext i
  obtain ⟨b, s, l, rfl⟩ : ∃ (b : Fin 6) (s : Fin 1024) (l : Fin 18432), i = ix3 b s l := ⟨i 0, i 1, i 2, eq_ix3 i⟩
  rw [back18432]
  exact (q_at b s hx l).trans (G7_at x r w ws gp gq b s l).symm

/-- RESULT 3: the scales of `x`. -/
theorem result3 : (shapeCast S6x1024x1 (Gs (fX x)) shapeCasts_S6144x1_S6x1024x1 : Vec Ideal S6x1024x1 .f32)
    = Cert.ReferenceIdeal.Value.G8 (F := Ideal) x r w ws gp gq := by
  funext i
  obtain ⟨b, s, l, rfl⟩ : ∃ (b : Fin 6) (s : Fin 1024) (l : Fin 1), i = ix3 b s l := ⟨i 0, i 1, i 2, eq_ix3 i⟩
  rw [back1]
  exact (s_at b s hx 0).trans (G8_at x r w ws gp gq b s l).symm

include hg

/-- The kernel's scale and codes of a group of a normed row are the reference's. -/
theorem group_eq (g : Fin 56) : kscaleOf (grp (zr x r w ws gp gq b s) g) = scaleOf (grp (zr x r w ws gp gq b s) g)
    ∧ kcodeOf (grp (zr x r w ws gp gq b s) g) = codeOf (grp (zr x r w ws gp gq b s) g) :=
  kscaleOf_eq (by decide) _ fun _ => normed_le _ _ (hg _) _

/-- RESULT 4: the codes of the normed residual stream. -/
theorem result4 : (shapeCast S6x1024x7168 (Gc (fY x w ws) (fR r) (fV gp) (fV gq)) shapeCasts_S6144x7168_S6x1024x7168 : Vec Ideal S6x1024x7168 .fp8e4m3)
    = Cert.ReferenceIdeal.Value.G9 (F := Ideal) x r w ws gp gq := by
  funext i
  obtain ⟨b, s, j, rfl⟩ : ∃ (b : Fin 6) (s : Fin 1024) (j : Fin 7168), i = ix3 b s j := ⟨i 0, i 1, i 2, eq_ix3 i⟩
  rw [back7168, G9_at x r w ws gp gq b s j]
  show kcodeOf (grp (zAll (fY x w ws) (fR r) (fV gp) (fV gq) (rowOf b s)) (grpOf j)) (inGrp j) = _
  rw [z_row r w ws gp b s hx, (group_eq r w ws gp b s hx hg (grpOf j)).2]

/-- RESULT 5: the scales of the normed residual stream. -/
theorem result5 : (shapeCast S6x1024x56 (Gz (fY x w ws) (fR r) (fV gp) (fV gq)) shapeCasts_S6144x56_S6x1024x56 : Vec Ideal S6x1024x56 .f32)
    = Cert.ReferenceIdeal.Value.G10 (F := Ideal) x r w ws gp gq := by
  funext i
  obtain ⟨b, s, g, rfl⟩ : ∃ (b : Fin 6) (s : Fin 1024) (g : Fin 56), i = ix3 b s g := ⟨i 0, i 1, i 2, eq_ix3 i⟩
  rw [back56, G10_at x r w ws gp gq b s g]
  show kscaleOf (grp (zAll (fY x w ws) (fR r) (fV gp) (fV gq) (rowOf b s)) g) = _
  rw [z_row r w ws gp b s hx, (group_eq r w ws gp b s hx hg g).1]

end Cert.Proof.Ker

end
-- ==== Proof.Pre.lean ====
module

public import proofs.«01_k».proof.Proof.Gen.Pre_finite
public import proofs.«01_k».proof.Proof.Model

/-!
  What the precondition says of each value.
-/

@[expose] public section

noncomputable section

namespace Cert.Proof.Pre

open Cert.Pre_finite Cert.Pre_finite.Gen Idealize.ShloMosaic

/-- The largest finite bf16. -/
theorem ofBits_bf16_max : (Ideal.ofBits .f32 0x7F7F0000#32 : EReal) = ((338953138925153547590470800371487866880 : ℝ) : EReal) := by
  simp [Ideal.ofBits, Ideal.ieee, -EReal.coe_mul]; norm_num

/-- The largest finite f32. -/
theorem ofBits_f32_max : (Ideal.ofBits .f32 0x7F7FFFFF#32 : EReal) = ((340282346638528859811704183484516925440 : ℝ) : EReal) := by
  simp [Ideal.ofBits, Ideal.ieee, -EReal.coe_mul]; norm_num

/-- A comparison that holds. -/
theorem le_of_cmpf {a b : EReal} (h : (FloatOps.cmpf (F := Ideal) (φ := .f32) .ole a b) = 1#1) : a ≤ b := by
  by_contra hn
  simp [FloatOps.cmpf, Ideal.cmp, hn] at h

variable (x : FVec Ideal S6x1024x18432 .bf16) (r : FVec Ideal S6x1024x7168 .bf16) (w : FVec Ideal S18432x7168 .fp8e4m3)
  (ws gp gq : FVec Ideal S7168 .f32)

/-- Every value of `x` is a finite bf16. -/
theorem x_le (h : (fn (F := Ideal) x r w ws gp gq).1 = fun _ => 1#1) (i : S6x1024x18432.Idx) :
    max (x i : EReal) (-(x i)) ≤ ((338953138925153547590470800371487866880 : ℝ) : EReal) := by
  rw [← ofBits_bf16_max]
  exact le_of_cmpf (congrFun h i)

/-- Every weight of the second norm is a finite f32. -/
theorem g_le (h : (fn (F := Ideal) x r w ws gp gq).2 = fun _ => 1#1) (i : S7168.Idx) :
    max (gq i : EReal) (-(gq i)) ≤ ((340282346638528859811704183484516925440 : ℝ) : EReal) := by
  rw [← ofBits_f32_max]
  exact le_of_cmpf (congrFun h i)

end Cert.Proof.Pre

end
-- ==== Proof.Algebraic.lean ====
module

public import proofs.«01_k».proof.Defs
public import proofs.«01_k».proof.Proof.KerWhole
public import proofs.«01_k».proof.Proof.Equation
public import proofs.«01_k».proof.Proof.Pre
public import proofs.«01_k».proof.Proof.Gen.ReferenceIdeal.Value

/-!
  The kernel and the reference end with equal results: both runs, read against the same five functions of the arguments.
-/

@[expose] public section

noncomputable section

namespace Cert.Proof

open Idealize.ShloMosaic Idealize.ShloMosaic.TcCoe Idealize.SL.Sem
open Cert.Proof.Ker (BoundX BoundG)

/-- Every value of `x` at most the largest bf16 is at most `85 · 2 ^ 128`. -/
theorem bf16_le : ((338953138925153547590470800371487866880 : ℝ) : EReal) ≤ ((85 * 2 ^ 128 : ℝ) : EReal) := by
  exact_mod_cast (by norm_num : (338953138925153547590470800371487866880 : ℝ) ≤ 85 * 2 ^ 128)

/-- A function of six arguments at equal arguments. -/
theorem congr6 {A B C D E H O : Type} (f : A → B → C → D → E → H → O) {a a' : A} {b b' : B} {c c' : C} {d d' : D} {e e' : E} {h h' : H}
    (ha : a = a') (hb : b = b') (hc : c = c') (hd : d = d') (he : e = e') (hh : h = h') : f a b c d e h = f a' b' c' d' e' h' := by
  subst ha hb hc hd he hh; rfl

section
open Cert.KernelIdeal Cert.KernelIdeal.Gen

variable (m : (ℓ : Loc nD τ sig) → Buf (Elt Ideal) ℓ) (ρ : Dev nD → PrngReg) (c : Dev nD)

/-- What the precondition says of `x`. -/
theorem boundX (h : Cert.Pre_KernelIdeal_finite m) : BoundX (m ((c.tc : Thread nD τ).loc main_arg0)) := fun i =>
  (Pre.x_le _ _ _ _ _ _ (h c).1 i).trans bf16_le

/-- What the precondition says of the second norm's weights. -/
theorem boundG (h : Cert.Pre_KernelIdeal_finite m) : BoundG (m ((c.tc : Thread nD τ).loc main_arg5)) := fun i =>
  Pre.g_le _ _ _ _ _ _ (h c).2 i

/-- A function of the kernel's six arguments. -/
abbrev atArgs {O : Type} (f : Vec Ideal S6x1024x18432 .bf16 → Vec Ideal S6x1024x7168 .bf16 → Vec Ideal S18432x7168 .fp8e4m3 →
    Vec Ideal S7168 .f32 → Vec Ideal S7168 .f32 → Vec Ideal S7168 .f32 → O) : O :=
  f (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

open Cert.ReferenceIdeal.Value (G6 G7 G8 G9 G10)

/-- The kernel's result 1, the new residual stream, is the reference's function of the arguments. -/
theorem kernel1 (h : Cert.Pre_KernelIdeal_finite m) :
    (W7 m ρ c (Proc.devRef .tc main_v8) : Vec Ideal S6x1024x7168 .bf16) = atArgs m c (G6 (F := Ideal)) :=
  (Ker.W7_h m ρ c).trans (Ker.result1 _ _ _ _ (boundX m c h))

/-- The kernel's result 2, the codes of `x`, is the reference's function of the arguments. -/
theorem kernel2 (h : Cert.Pre_KernelIdeal_finite m) :
    (W7 m ρ c (Proc.devRef .tc main_v9) : Vec Ideal S6x1024x18432 .fp8e4m3) = atArgs m c (G7 (F := Ideal)) :=
  (Ker.W7_q m ρ c).trans (Ker.result2 _ _ _ _ (boundX m c h))

/-- The kernel's result 3, the scales of `x`, is the reference's function of the arguments. -/
theorem kernel3 (h : Cert.Pre_KernelIdeal_finite m) :
    (W7 m ρ c (Proc.devRef .tc main_v10) : Vec Ideal S6x1024x1 .f32) = atArgs m c (G8 (F := Ideal)) :=
  (Ker.W7_s m ρ c).trans (Ker.result3 _ _ _ _ (boundX m c h))

/-- The kernel's result 4, the codes of the normed residual stream, is the reference's function of the arguments. -/
theorem kernel4 (h : Cert.Pre_KernelIdeal_finite m) :
    (W7 m ρ c (Proc.devRef .tc main_v11) : Vec Ideal S6x1024x7168 .fp8e4m3) = atArgs m c (G9 (F := Ideal)) :=
  (Ker.W7_c m ρ c).trans (Ker.result4 _ _ _ _ (boundX m c h) (boundG m c h))

/-- The kernel's result 5, the scales of the normed residual stream, is the reference's function of the arguments. -/
theorem kernel5 (h : Cert.Pre_KernelIdeal_finite m) :
    (W7 m ρ c (Proc.devRef .tc main_v12) : Vec Ideal S6x1024x56 .f32) = atArgs m c (G10 (F := Ideal)) :=
  (Ker.W7_z m ρ c).trans (Ker.result5 _ _ _ _ (boundX m c h) (boundG m c h))

end

open Cert.ReferenceIdeal.Value (G6 G7 G8 G9 G10)

/-- THE VALUE CLAIM: the kernel's five results are the reference's. -/
theorem algebraic : Cert.algebraic_KernelIdeal_ReferenceIdeal_pre_finite := by
  intro m ρ m' ρ' hpre hargs
  refine ⟨fun c => atArgs m c (G6 (F := Ideal)), fun c => atArgs m c (G7 (F := Ideal)), fun c => atArgs m c (G8 (F := Ideal)),
    fun c => atArgs m c (G9 (F := Ideal)), fun c => atArgs m c (G10 (F := Ideal)), ?_, ?_⟩
  · refine (θ_run _ _ _).mono (fun r h c => ?_) (Ker.run m ρ)
    obtain ⟨h8, h9, h10, h11, h12, hrest⟩ := h c
    exact ⟨h8.trans (kernel1 m ρ c hpre), h9.trans (kernel2 m ρ c hpre), h10.trans (kernel3 m ρ c hpre),
      h11.trans (kernel4 m ρ c hpre), h12.trans (kernel5 m ρ c hpre), hrest⟩
  · refine (θ_run _ _ _).mono (fun r h c => ?_) (Cert.ReferenceIdeal.Value.run (F := Ideal) m' ρ')
    obtain ⟨h0, h1, h2, h3, h4, hrest⟩ := h c
    obtain ⟨e0, e1, e2, e3, e4, e5⟩ := hargs c
    exact ⟨h0.trans (congr6 (G6 (F := Ideal)) e0 e1 e2 e3 e4 e5), h1.trans (congr6 (G7 (F := Ideal)) e0 e1 e2 e3 e4 e5),
      h2.trans (congr6 (G8 (F := Ideal)) e0 e1 e2 e3 e4 e5), h3.trans (congr6 (G9 (F := Ideal)) e0 e1 e2 e3 e4 e5),
      h4.trans (congr6 (G10 (F := Ideal)) e0 e1 e2 e3 e4 e5), hrest⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_finite
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The claims: the three programs run and leave their arguments alone, the ideal print keeps the kernel, and the kernel's
    five results are the reference's. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ,
  IdealRules.named_const.statement Cert.KernelIdeal.κ "inv_d" .f32 0x39124925#32 ((1 / 7168 : ℝ) : EReal) rfl,
  algebraic⟩

end Cert.Proof

end
